-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite [hPre_finite : Cert.Pre_finite.Facts] (m : (ℓ : Loc Cert.SwaIdeal.nD Cert.SwaIdeal.τ Cert.SwaIdeal.sig) → Buf (Elt Ideal) ℓ) : Prop :=
  ∀ c : Dev Cert.SwaIdeal.nD,
    (Cert.Pre_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite [hPre_finite : Cert.Pre_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_finite [hSwaIdeal : Cert.SwaIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaRefIdeal_pre_finite [hSwaRefIdeal : Cert.SwaRefIdeal.Facts] [hPre_finite : Cert.Pre_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_finite [hSwaIdeal : Cert.SwaIdeal.Facts] [hSwaRefIdeal : Cert.SwaRefIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v3)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v3) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v81) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v12)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v12) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v57) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v24)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v24) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v104) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)) →
    ∃ (v0 : (c : Dev Cert.PrepIdeal.nD) → Buf (Elt Ideal) ((c.tc : Thread Cert.PrepIdeal.nD Cert.PrepIdeal.τ).loc Cert.PrepIdeal.main_v1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v1) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v34) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0))

def Claim : Prop :=
  ∃ (hSwa : Cert.Swa.Facts) (hSwaIdeal : Cert.SwaIdeal.Facts) (hSwaRefIdeal : Cert.SwaRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hPrep : Cert.Prep.Facts) (hPrepIdeal : Cert.PrepIdeal.Facts) (hPrepRefIdeal : Cert.PrepRefIdeal.Facts) (hPre_finite : Cert.Pre_finite.Facts),
    quiescent_Swa (hSwa := hSwa)
    ∧ quiescent_SwaIdeal (hSwaIdeal := hSwaIdeal)
    ∧ quiescent_SwaIdeal_pre_finite (hSwaIdeal := hSwaIdeal) (hPre_finite := hPre_finite)
    ∧ quiescent_SwaRefIdeal (hSwaRefIdeal := hSwaRefIdeal)
    ∧ quiescent_SwaRefIdeal_pre_finite (hSwaRefIdeal := hSwaRefIdeal) (hPre_finite := hPre_finite)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_Prep (hPrep := hPrep)
    ∧ quiescent_PrepIdeal (hPrepIdeal := hPrepIdeal)
    ∧ quiescent_PrepRefIdeal (hPrepRefIdeal := hPrepRefIdeal)
    ∧ preserves_Swa_SwaIdeal
    ∧ algebraic_SwaIdeal_SwaRefIdeal_pre_finite (hSwaIdeal := hSwaIdeal) (hSwaRefIdeal := hSwaRefIdeal) (hPre_finite := hPre_finite)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_Prep_PrepIdeal
    ∧ algebraic_PrepIdeal_PrepRefIdeal (hPrepIdeal := hPrepIdeal) (hPrepRefIdeal := hPrepRefIdeal)
-- ==== Pre_finite.lean ====
abbrev S4x4096x6144 : Shape := ⟨3, ![4, 4096, 6144]⟩
abbrev S8 : Shape := ⟨1, ![8]⟩
abbrev S_ : Shape := ⟨0, ![]⟩

class Facts : Prop where
  bcast_S_S4x4096x6144 : S_.BroadcastsInDim S4x4096x6144 (![] : Fin 0 → Fin S4x4096x6144.rank)
  reducesTo_S4x4096x6144_S_d0_1_2 : S4x4096x6144.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S4x4096x6144 .f32) (main_arg1 : FVec F S8 .f32) : IVec S_ 1 :=
  let main_v0 : FVec F S4x4096x6144 .f32 := Host.absf main_arg0
  let main_cst : FVec F S_ .f32 := constant S_ .f32 0x7F800000#32
  let main_v1 : FVec F S4x4096x6144 .f32 := broadcastInDim S4x4096x6144 ![] bcast_S_S4x4096x6144 main_cst
  let main_v2 : IVec S4x4096x6144 1 := cmpf .olt main_v0 main_v1
  let main_c : IVec S_ 1 := constantI S_ 1 1#1
  let main_v3 : IVec S_ 1 := (fun x v => Host.reduce IntOp.andi x v reducesTo_S4x4096x6144_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Swa.lean ====
abbrev S4x4096x6144 : Shape := ⟨3, ![4, 4096, 6144]⟩
abbrev S8 : Shape := ⟨1, ![8]⟩
abbrev S2x4 : Shape := ⟨2, ![2, 4]⟩
abbrev S4x2 : Shape := ⟨2, ![4, 2]⟩
abbrev S4x4096x512 : Shape := ⟨3, ![4, 4096, 512]⟩
abbrev S1x512x512 : Shape := ⟨3, ![1, 512, 512]⟩
abbrev S1x128x128 : Shape := ⟨3, ![1, 128, 128]⟩
abbrev S1x512x128 : Shape := ⟨3, ![1, 512, 128]⟩
abbrev S128x128 : Shape := ⟨2, ![128, 128]⟩
abbrev S512x128 : Shape := ⟨2, ![512, 128]⟩
abbrev S640x128 : Shape := ⟨2, ![640, 128]⟩
abbrev S128x256 : Shape := ⟨2, ![128, 256]⟩
abbrev S256x128 : Shape := ⟨2, ![256, 128]⟩
abbrev S1 : Shape := ⟨1, ![1]⟩
abbrev S128 : Shape := ⟨1, ![128]⟩
abbrev S128x1 : Shape := ⟨2, ![128, 1]⟩

abbrev nBuf : Space → Nat
  | .hbm => 6
  | .vmem => 14
  | .smem => 1
  | _ => 0

abbrev bufTy : (tb : Table) → Fin (tcTables nBuf tb) → BufTy
  | .hbm, ⟨0, _⟩ => ⟨S4x4096x6144, .f32⟩
  | .hbm, ⟨1, _⟩ => ⟨S8, .f32⟩
  | .hbm, ⟨2, _⟩ => ⟨S2x4, .f32⟩
  | .hbm, ⟨3, _⟩ => ⟨S4x2, .f32⟩
  | .hbm, ⟨4, _⟩ => ⟨S8, .f32⟩
  | .hbm, ⟨5, _⟩ => ⟨S4x4096x512, .bf16⟩
  | .local _ .vmem, ⟨0, _⟩ => ⟨S1x512x512, .f32⟩
  | .local _ .vmem, ⟨1, _⟩ => ⟨S1x512x512, .f32⟩
  | .local _ .vmem, ⟨2, _⟩ => ⟨S1x128x128, .f32⟩
  | .local _ .vmem, ⟨3, _⟩ => ⟨S1x128x128, .f32⟩
  | .local _ .vmem, ⟨4, _⟩ => ⟨S1x512x128, .f32⟩
  | .local _ .vmem, ⟨5, _⟩ => ⟨S1x512x128, .f32⟩
  | .local _ .vmem, ⟨6, _⟩ => ⟨S1x128x128, .f32⟩
  | .local _ .vmem, ⟨7, _⟩ => ⟨S1x128x128, .f32⟩
  | .local _ .vmem, ⟨8, _⟩ => ⟨S1x512x128, .f32⟩
  | .local _ .vmem, ⟨9, _⟩ => ⟨S1x512x128, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .bf16⟩
  | .local _ .vmem, ⟨13, _⟩ => ⟨S1x512x512, .bf16⟩
  | .local _ .smem, ⟨0, _⟩ => ⟨S8, .f32⟩
  | _, _ => ⟨S4x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c36_i32 : BitVec 32 := 36#32
  let c0_i32_0 : BitVec 32 := 0#32
  ![arg0.toNat, v2.toNat, c36_i32.toNat]

def cc0_transform_3 (i : grid0.Coords) : Fin 3 → Nat :=
  let arg0 : BitVec 32 := BitVec.ofNat 32 (i 0).val
  let arg1 : BitVec 32 := BitVec.ofNat 32 (i 1).val
  let c36_i32 : BitVec 32 := 36#32
  let c0_i32 : BitVec 32 := 0#32
  ![arg0.toNat, arg1.toNat, c36_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c37_i32 : BitVec 32 := 37#32
  let c0_i32_0 : BitVec 32 := 0#32
  ![arg0.toNat, v2.toNat, c37_i32.toNat]

def cc0_transform_5 (i : grid0.Coords) : Fin 3 → Nat :=
  let arg0 : BitVec 32 := BitVec.ofNat 32 (i 0).val
  let arg1 : BitVec 32 := BitVec.ofNat 32 (i 1).val
  let c37_i32 : BitVec 32 := 37#32
  let c0_i32 : BitVec 32 := 0#32
  ![arg0.toNat, arg1.toNat, c37_i32.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S4x4096x6144 : Shape := ⟨3, ![4, 4096, 6144]⟩
abbrev S8 : Shape := ⟨1, ![8]⟩
abbrev S4x4096x512 : Shape := ⟨3, ![4, 4096, 512]⟩
abbrev S4x4096x4x2x2x32 : Shape := ⟨6, ![4, 4096, 4, 2, 2, 32]⟩
abbrev S4x4096x2x4x2x32 : Shape := ⟨6, ![4, 4096, 2, 4, 2, 32]⟩
abbrev S4x4096x8x64 : Shape := ⟨4, ![4, 4096, 8, 64]⟩
abbrev S4x4096x128 : Shape := ⟨3, ![4, 4096, 128]⟩
abbrev S4x4096x2x2x32 : Shape := ⟨5, ![4, 4096, 2, 2, 32]⟩
abbrev S4x4096x2x64 : Shape := ⟨4, ![4, 4096, 2, 64]⟩
abbrev S4x32x128x2x4x64 : Shape := ⟨6, ![4, 32, 128, 2, 4, 64]⟩
abbrev S4x32x128x2x64 : Shape := ⟨5, ![4, 32, 128, 2, 64]⟩
abbrev S_ : Shape := ⟨0, ![]⟩
abbrev S4x33x128x2x64 : Shape := ⟨5, ![4, 33, 128, 2, 64]⟩
abbrev S4x32x256x2x64 : Shape := ⟨5, ![4, 32, 256, 2, 64]⟩
abbrev S4x32x2x256x128x4 : Shape := ⟨6, ![4, 32, 2, 256, 128, 4]⟩
abbrev S4x32x2x4x128x256 : Shape := ⟨6, ![4, 32, 2, 4, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x2x4x1x1 : Shape := ⟨6, ![1, 1, 2, 4, 1, 1]⟩
abbrev S4x32x2x4x128x1 : Shape := ⟨6, ![4, 32, 2, 4, 128, 1]⟩
abbrev S4x32x2x4x128x257 : Shape := ⟨6, ![4, 32, 2, 4, 128, 257]⟩
abbrev S4x32x2x4x128 : Shape := ⟨5, ![4, 32, 2, 4, 128]⟩
abbrev S4x32x2x64x4x128 : Shape := ⟨6, ![4, 32, 2, 64, 4, 128]⟩
abbrev S4x4096x2x4x64 : Shape := ⟨5, ![4, 4096, 2, 4, 64]⟩
abbrev S4x4096x4x2x64 : Shape := ⟨5, ![4, 4096, 4, 2, 64]⟩

abbrev nBuf : Space → Nat
  | .hbm => 110
  | .vmem => 0
  | .smem => 0
  | _ => 0

abbrev bufTy : (tb : Table) → Fin (tcTables nBuf tb) → BufTy
  | .hbm, ⟨0, _⟩ => ⟨S4x4096x6144, .f32⟩
  | .hbm, ⟨1, _⟩ => ⟨S8, .f32⟩
  | .hbm, ⟨2, _⟩ => ⟨S4x4096x512, .f32⟩
  | .hbm, ⟨3, _⟩ => ⟨S4x4096x4x2x2x32, .f32⟩
  | .hbm, ⟨4, _⟩ => ⟨S4x4096x2x4x2x32, .f32⟩
  | .hbm, ⟨5, _⟩ => ⟨S4x4096x8x64, .f32⟩
  | .hbm, ⟨6, _⟩ => ⟨S4x4096x128, .f32⟩
  | .hbm, ⟨7, _⟩ => ⟨S4x4096x2x2x32, .f32⟩
  | .hbm, ⟨8, _⟩ => ⟨S4x4096x2x2x32, .f32⟩
  | .hbm, ⟨9, _⟩ => ⟨S4x4096x2x64, .f32⟩
  | .hbm, ⟨10, _⟩ => ⟨S4x4096x128, .f32⟩
  | .hbm, ⟨11, _⟩ => ⟨S4x4096x2x64, .f32⟩
  | .hbm, ⟨12, _⟩ => ⟨S4x4096x512, .f32⟩
  | .hbm, ⟨13, _⟩ => ⟨S4x32x128x2x4x64, .f32⟩
  | .hbm, ⟨14, _⟩ => ⟨S4x32x128x2x64, .f32⟩
  | .hbm, ⟨15, _⟩ => ⟨S_, .i32⟩
  | .hbm, ⟨16, _⟩ => ⟨S_, .f32⟩
  | .hbm, ⟨17, _⟩ => ⟨S4x33x128x2x64, .f32⟩
  | .hbm, ⟨18, _⟩ => ⟨S4x32x128x2x64, .f32⟩
  | .hbm, ⟨19, _⟩ => ⟨S4x32x256x2x64, .f32⟩
  | .hbm, ⟨20, _⟩ => ⟨S4x32x128x2x64, .f32⟩
  | .hbm, ⟨21, _⟩ => ⟨S_, .i32⟩
  | .hbm, ⟨22, _⟩ => ⟨S_, .f32⟩
  | .hbm, ⟨23, _⟩ => ⟨S4x33x128x2x64, .f32⟩
  | .hbm, ⟨24, _⟩ => ⟨S4x32x128x2x64, .f32⟩
  | .hbm, ⟨25, _⟩ => ⟨S4x32x256x2x64, .f32⟩
  | .hbm, ⟨26, _⟩ => ⟨S4x32x2x256x128x4, .f32⟩
  | .hbm, ⟨27, _⟩ => ⟨S4x32x2x4x128x256, .f32⟩
  | .hbm, ⟨28, _⟩ => ⟨S_, .f32⟩
  | .hbm, ⟨29, _⟩ => ⟨S4x32x2x4x128x256, .f32⟩
  | .hbm, ⟨30, _⟩ => ⟨S4x32x2x4x128x256, .f32⟩
  | .hbm, ⟨31, _⟩ => ⟨S32, .i32⟩
  | .hbm, ⟨32, _⟩ => ⟨S32x1x1, .i32⟩
  | .hbm, ⟨33, _⟩ => ⟨S_, .i32⟩
  | .hbm, ⟨34, _⟩ => ⟨S32x1x1, .i32⟩
  | .hbm, ⟨35, _⟩ => ⟨S32x1x1, .i32⟩
  | .hbm, ⟨36, _⟩ => ⟨S128, .i32⟩
  | .hbm, ⟨37, _⟩ => ⟨S1x128x1, .i32⟩
  | .hbm, ⟨38, _⟩ => ⟨S32x128x1, .i32⟩
  | .hbm, ⟨39, _⟩ => ⟨S32x128x1, .i32⟩
  | .hbm, ⟨40, _⟩ => ⟨S32x128x1, .i32⟩
  | .hbm, ⟨41, _⟩ => ⟨S32, .i32⟩
  | .hbm, ⟨42, _⟩ => ⟨S32x1x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S_, .i32⟩
  | .hbm, ⟨47, _⟩ => ⟨S32x1x1, .i32⟩
  | .hbm, ⟨48, _⟩ => ⟨S32x1x1, .i32⟩
  | .hbm, ⟨49, _⟩ => ⟨S256, .i32⟩
  | .hbm, ⟨50, _⟩ => ⟨S1x1x256, .i32⟩
  | .hbm, ⟨51, _⟩ => ⟨S32x1x256, .i32⟩
  | .hbm, ⟨52, _⟩ => ⟨S32x1x256, .i32⟩
  | .hbm, ⟨53, _⟩ => ⟨S32x1x256, .i32⟩
  | .hbm, ⟨54, _⟩ => ⟨S32x128x256, .i32⟩
  | .hbm, ⟨55, _⟩ => ⟨S32x128x256, .i32⟩
  | .hbm, ⟨56, _⟩ => ⟨S32x128x256, .i32⟩
  | .hbm, ⟨57, _⟩ => ⟨S_, .i32⟩
  | .hbm, ⟨58, _⟩ => ⟨S32x128x256, .i32⟩
  | .hbm, ⟨59, _⟩ => ⟨S32x128x256, .i1⟩
  | .hbm, ⟨60, _⟩ => ⟨S_, .i32⟩
  | .hbm, ⟨61, _⟩ => ⟨S32x128x256, .i32⟩
  | .hbm, ⟨62, _⟩ => ⟨S32x128x256, .i1⟩
  | .hbm, ⟨63, _⟩ => ⟨S32x128x256, .i1⟩
  | .hbm, ⟨64, _⟩ => ⟨S_, .i32⟩
  | .hbm, ⟨65, _⟩ => ⟨S32x1x256, .i32⟩
  | .hbm, ⟨66, _⟩ => ⟨S32x1x256, .i1⟩
  | .hbm, ⟨67, _⟩ => ⟨S32x128x256, .i1⟩
  | .hbm, ⟨68, _⟩ => ⟨S32x128x256, .i1⟩
  | .hbm, ⟨69, _⟩ => ⟨S1x32x1x1x128x256, .i1⟩
  | .hbm, ⟨70, _⟩ => ⟨S_, .f32⟩
  | .hbm, ⟨71, _⟩ => ⟨S_, .f32⟩
  | .hbm, ⟨72, _⟩ => ⟨S4x32x2x4x128x256, .i1⟩
  | .hbm, ⟨73, _⟩ => ⟨S4x32x2x4x128x256, .f32⟩
  | .hbm, ⟨74, _⟩ => ⟨S4x32x2x4x128x256, .f32⟩
  | .hbm, ⟨75, _⟩ => ⟨S1x1x2x4x1x1, .f32⟩
  | .hbm, ⟨76, _⟩ => ⟨S4x32x2x4x128x1, .f32⟩
  | .hbm, ⟨77, _⟩ => ⟨S4x32x2x4x128x257, .f32⟩
  | .hbm, ⟨78, _⟩ => ⟨S_, .f32⟩
  | .hbm, ⟨79, _⟩ => ⟨S4x32x2x4x128, .f32⟩
  | .hbm, ⟨80, _⟩ => ⟨S_, .f32⟩
  | .hbm, ⟨81, _⟩ => ⟨S4x32x2x4x128, .f32⟩
  | .hbm, ⟨82, _⟩ => ⟨S4x32x2x4x128, .f32⟩
  | .hbm, ⟨83, _⟩ => ⟨S4x32x2x4x128x1, .f32⟩
  | .hbm, ⟨84, _⟩ => ⟨S4x32x2x4x128x257, .f32⟩
  | .hbm, ⟨85, _⟩ => ⟨S4x32x2x4x128x257, .f32⟩
  | .hbm, ⟨86, _⟩ => ⟨S4x32x2x4x128x257, .f32⟩
  | .hbm, ⟨87, _⟩ => ⟨S_, .f32⟩
  | .hbm, ⟨88, _⟩ => ⟨S4x32x2x4x128, .f32⟩
  | .hbm, ⟨89, _⟩ => ⟨S4x32x2x4x128x1, .f32⟩
  | .hbm, ⟨90, _⟩ => ⟨S4x32x2x4x128x257, .f32⟩
  | .hbm, ⟨91, _⟩ => ⟨S4x32x2x4x128x257, .f32⟩
  | .hbm, ⟨92, _⟩ => ⟨S4x32x2x4x128x256, .f32⟩
  | .hbm, ⟨93, _⟩ => ⟨S4x32x2x64x4x128, .f32⟩
  | .hbm, ⟨94, _⟩ => ⟨S4x32x128x2x4x64, .f32⟩
  | .hbm, ⟨95, _⟩ => ⟨S4x4096x8x64, .f32⟩
  | .hbm, ⟨96, _⟩ => ⟨S4x4096x2x4x64, .f32⟩
  | .hbm, ⟨97, _⟩ => ⟨S4x4096x4x2x64, .f32⟩
  | .hbm, ⟨98, _⟩ => ⟨S4x4096x512, .f32⟩
  | .hbm, ⟨99, _⟩ => ⟨S4x4096x512, .f32⟩
  | .hbm, ⟨100, _⟩ => ⟨S4x4096x512, .f32⟩
  | .hbm, ⟨101, _⟩ => ⟨S_, .f32⟩
  | .hbm, ⟨102, _⟩ => ⟨S4x4096x512, .f32⟩
  | .hbm, ⟨103, _⟩ => ⟨S4x4096x512, .f32⟩
  | .hbm, ⟨104, _⟩ => ⟨S_, .f32⟩
  | .hbm, ⟨105, _⟩ => ⟨S4x4096x512, .f32⟩
  | .hbm, ⟨106, _⟩ => ⟨S4x4096x512, .f32⟩
  | .hbm, ⟨107, _⟩ => ⟨S4x4096x512, .f32⟩
  | .hbm, ⟨108, _⟩ => ⟨S4x4096x512, .f32⟩
  | .hbm, ⟨109, _⟩ => ⟨S4x4096x512, .bf16⟩
  | _, _ => ⟨S4x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call1_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_4 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call3_v0 : Ref sig .tc := ⟨.hbm, 99, rfl⟩
abbrev main_call3_v1 : Ref sig .tc := ⟨.hbm, 100, rfl⟩
abbrev main_call3_cst : Ref sig .tc := ⟨.hbm, 101, rfl⟩
abbrev main_call3_v2 : Ref sig .tc := ⟨.hbm, 102, rfl⟩
abbrev main_call3_v3 : Ref sig .tc := ⟨.hbm, 103, rfl⟩
abbrev main_call3_cst_0 : Ref sig .tc := ⟨.hbm, 104, rfl⟩
abbrev main_call3_v4 : Ref sig .tc := ⟨.hbm, 105, rfl⟩
abbrev main_call3_v5 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== Out.lean ====
abbrev S16384x512 : Shape := ⟨2, ![16384, 512]⟩
abbrev S16384x6144 : Shape := ⟨2, ![16384, 6144]⟩
abbrev S16384x2048 : Shape := ⟨2, ![16384, 2048]⟩
abbrev S4x2048x2048 : Shape := ⟨3, ![4, 2048, 2048]⟩
abbrev S2048 : Shape := ⟨1, ![2048]⟩
abbrev S512 : Shape := ⟨1, ![512]⟩
abbrev S4x512x512 : Shape := ⟨3, ![4, 512, 512]⟩
abbrev S4x1024x2048 : Shape := ⟨3, ![4, 1024, 2048]⟩
abbrev S4x512x2048 : Shape := ⟨3, ![4, 512, 2048]⟩
abbrev S4x2x4x64x2048 : Shape := ⟨5, ![4, 2, 4, 64, 2048]⟩
abbrev S4x4x2x64x2048 : Shape := ⟨5, ![4, 4, 2, 64, 2048]⟩
abbrev S1x2048 : Shape := ⟨2, ![1, 2048]⟩
abbrev S1x512 : Shape := ⟨2, ![1, 512]⟩
abbrev S512x512 : Shape := ⟨2, ![512, 512]⟩
abbrev S512x2048 : Shape := ⟨2, ![512, 2048]⟩
abbrev S1x2048x2048 : Shape := ⟨3, ![1, 2048, 2048]⟩
abbrev S1x512x512 : Shape := ⟨3, ![1, 512, 512]⟩
abbrev S1x512x2048 : Shape := ⟨3, ![1, 512, 2048]⟩
abbrev S512x1 : Shape := ⟨2, ![512, 1]⟩

abbrev nBuf : Space → Nat
  | .hbm => 24
  | .vmem => 21
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x6144, .f32⟩
  | .hbm, ⟨5, _⟩ => ⟨S16384x2048, .f32⟩
  | .hbm, ⟨6, _⟩ => ⟨S4x2048x2048, .f32⟩
  | .hbm, ⟨7, _⟩ => ⟨S2048, .f32⟩
  | .hbm, ⟨8, _⟩ => ⟨S512, .f32⟩
  | .hbm, ⟨9, _⟩ => ⟨S4x512x512, .f32⟩
  | .hbm, ⟨10, _⟩ => ⟨S512, .f32⟩
  | .hbm, ⟨11, _⟩ => ⟨S4x1024x2048, .f32⟩
  | .hbm, ⟨12, _⟩ => ⟨S4x512x2048, .f32⟩
  | .hbm, ⟨13, _⟩ => ⟨S4x2x4x64x2048, .f32⟩
  | .hbm, ⟨14, _⟩ => ⟨S4x4x2x64x2048, .f32⟩
  | .hbm, ⟨15, _⟩ => ⟨S4x512x2048, .f32⟩
  | .hbm, ⟨16, _⟩ => ⟨S4x512x2048, .f32⟩
  | .hbm, ⟨17, _⟩ => ⟨S4x2048x2048, .f32⟩
  | .hbm, ⟨18, _⟩ => ⟨S4x2048x2048, .bf16⟩
  | .hbm, ⟨19, _⟩ => ⟨S4x512x512, .bf16⟩
  | .hbm, ⟨20, _⟩ => ⟨S1x2048, .f32⟩
  | .hbm, ⟨21, _⟩ => ⟨S1x512, .f32⟩
  | .hbm, ⟨22, _⟩ => ⟨S1x512, .f32⟩
  | .hbm, ⟨23, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x2048, .f32⟩
  | .local _ .vmem, ⟨13, _⟩ => ⟨S512x2048, .f32⟩
  | .local _ .vmem, ⟨14, _⟩ => ⟨S1x2048x2048, .bf16⟩
  | .local _ .vmem, ⟨15, _⟩ => ⟨S1x2048, .f32⟩
  | .local _ .vmem, ⟨16, _⟩ => ⟨S1x512, .f32⟩
  | .local _ .vmem, ⟨17, _⟩ => ⟨S1x512x512, .bf16⟩
  | .local _ .vmem, ⟨18, _⟩ => ⟨S1x512, .f32⟩
  | .local _ .vmem, ⟨19, _⟩ => ⟨S512x2048, .f32⟩
  | .local _ .vmem, ⟨20, _⟩ => ⟨S512x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutRefIdeal.lean ====
abbrev S16384x512 : Shape := ⟨2, ![16384, 512]⟩
abbrev S16384x6144 : Shape := ⟨2, ![16384, 6144]⟩
abbrev S16384x2048 : Shape := ⟨2, ![16384, 2048]⟩
abbrev S4x2048x2048 : Shape := ⟨3, ![4, 2048, 2048]⟩
abbrev S2048 : Shape := ⟨1, ![2048]⟩
abbrev S512 : Shape := ⟨1, ![512]⟩
abbrev S4x512x512 : Shape := ⟨3, ![4, 512, 512]⟩
abbrev S1x512 : Shape := ⟨2, ![1, 512]⟩
abbrev S_ : Shape := ⟨0, ![]⟩
abbrev S1x512x512 : Shape := ⟨3, ![1, 512, 512]⟩
abbrev S512x512 : Shape := ⟨2, ![512, 512]⟩
abbrev S16384x4x2x64 : Shape := ⟨4, ![16384, 4, 2, 64]⟩
abbrev S16384x2x4x64 : Shape := ⟨4, ![16384, 2, 4, 64]⟩
abbrev S1x2048x2048 : Shape := ⟨3, ![1, 2048, 2048]⟩
abbrev S2048x2048 : Shape := ⟨2, ![2048, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 86
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x6144, .f32⟩
  | .hbm, ⟨5, _⟩ => ⟨S16384x2048, .f32⟩
  | .hbm, ⟨6, _⟩ => ⟨S4x2048x2048, .f32⟩
  | .hbm, ⟨7, _⟩ => ⟨S2048, .f32⟩
  | .hbm, ⟨8, _⟩ => ⟨S512, .f32⟩
  | .hbm, ⟨9, _⟩ => ⟨S4x512x512, .f32⟩
  | .hbm, ⟨10, _⟩ => ⟨S512, .f32⟩
  | .hbm, ⟨11, _⟩ => ⟨S16384x512, .f32⟩
  | .hbm, ⟨12, _⟩ => ⟨S16384x512, .f32⟩
  | .hbm, ⟨13, _⟩ => ⟨S1x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S1x512x512, .f32⟩
  | .hbm, ⟨35, _⟩ => ⟨S512x512, .f32⟩
  | .hbm, ⟨36, _⟩ => ⟨S16384x512, .f32⟩
  | .hbm, ⟨37, _⟩ => ⟨S1x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S_, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x4x2x64, .f32⟩
  | .hbm, ⟨61, _⟩ => ⟨S16384x2x4x64, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x2048, .f32⟩
  | .hbm, ⟨66, _⟩ => ⟨S1x2048x2048, .f32⟩
  | .hbm, ⟨67, _⟩ => ⟨S2048x2048, .f32⟩
  | .hbm, ⟨68, _⟩ => ⟨S16384x2048, .f32⟩
  | .hbm, ⟨69, _⟩ => ⟨S16384x2048, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x2048, .f32⟩
  | .hbm, ⟨81, _⟩ => ⟨S16384x2048, .f32⟩
  | .hbm, ⟨82, _⟩ => ⟨S1x2048, .f32⟩
  | .hbm, ⟨83, _⟩ => ⟨S16384x2048, .f32⟩
  | .hbm, ⟨84, _⟩ => ⟨S16384x2048, .f32⟩
  | .hbm, ⟨85, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== In.lean ====
abbrev S16384x2048 : Shape := ⟨2, ![16384, 2048]⟩
abbrev S2048 : Shape := ⟨1, ![2048]⟩
abbrev S4x6144x2048 : Shape := ⟨3, ![4, 6144, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x2048 : Shape := ⟨2, ![1, 2048]⟩
abbrev S16384x6144 : Shape := ⟨2, ![16384, 6144]⟩
abbrev S1024x2048 : Shape := ⟨2, ![1024, 2048]⟩
abbrev S1x1024x2048 : Shape := ⟨3, ![1, 1024, 2048]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 33
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x6144x2048, .bf16⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x128, .f32⟩
  | .hbm, ⟨28, _⟩ => ⟨S4096x32, .f32⟩
  | .hbm, ⟨29, _⟩ => ⟨S4096x32, .f32⟩
  | .hbm, ⟨30, _⟩ => ⟨S4096x128, .f32⟩
  | .hbm, ⟨31, _⟩ => ⟨S1x2048, .f32⟩
  | .hbm, ⟨32, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1024x2048, .bf16⟩
  | .local _ .vmem, ⟨4, _⟩ => ⟨S1x1024x2048, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c0_i32_5 : BitVec 32 := 0#32
  let v7 : BitVec 1 := Scalar.cmpi .eq arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c4_i32 : BitVec 32 := 4#32
  let v10 : BitVec 1 := Scalar.cmpi .eq arg1 c4_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg1 : BitVec 32 := BitVec.ofNat 32 (i 1).val
  let c0_i32_8 : BitVec 32 := 0#32
  let v13 : BitVec 1 := Scalar.cmpi .ne arg1 c0_i32_8
  let c4_i32_9 : BitVec 32 := 4#32
  let v14 : BitVec 1 := Scalar.cmpi .ne arg1 c4_i32_9
  let v15 : BitVec 1 := Scalar.andi v13 v14
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InRefIdeal.lean ====
abbrev S16384x2048 : Shape := ⟨2, ![16384, 2048]⟩
abbrev S2048 : Shape := ⟨1, ![2048]⟩
abbrev S4x6144x2048 : Shape := ⟨3, ![4, 6144, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x6144x2048 : Shape := ⟨3, ![1, 6144, 2048]⟩
abbrev S6144x2048 : Shape := ⟨2, ![6144, 2048]⟩
abbrev S2048x6144 : Shape := ⟨2, ![2048, 6144]⟩
abbrev S16384x6144 : Shape := ⟨2, ![16384, 6144]⟩
abbrev S4x4096x6144 : Shape := ⟨3, ![4, 4096, 6144]⟩
abbrev S4x4096x1024 : Shape := ⟨3, ![4, 4096, 1024]⟩
abbrev S4x4096x8x2x2x32 : Shape := ⟨6, ![4, 4096, 8, 2, 2, 32]⟩
abbrev S4x4096x16x64 : Shape := ⟨4, ![4, 4096, 16, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x16x32 : Shape := ⟨4, ![4, 4096, 16, 32]⟩
abbrev S4x4096x3072 : Shape := ⟨3, ![4, 4096, 3072]⟩
abbrev S4x4096x640 : Shape := ⟨3, ![4, 4096, 640]⟩
abbrev S4x4096x5x2x2x32 : Shape := ⟨6, ![4, 4096, 5, 2, 2, 32]⟩
abbrev S4x4096x10x64 : Shape := ⟨4, ![4, 4096, 10, 64]⟩
abbrev S4x4096x10x32 : Shape := ⟨4, ![4, 4096, 10, 32]⟩
abbrev S4x4096x1408 : Shape := ⟨3, ![4, 4096, 1408]⟩

abbrev nBuf : Space → Nat
  | .hbm => 121
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x6144x2048, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S1x6144x2048, .bf16⟩
  | .hbm, ⟨20, _⟩ => ⟨S6144x2048, .bf16⟩
  | .hbm, ⟨21, _⟩ => ⟨S6144x2048, .f32⟩
  | .hbm, ⟨22, _⟩ => ⟨S2048x6144, .f32⟩
  | .hbm, ⟨23, _⟩ => ⟨S16384x6144, .f32⟩
  | .hbm, ⟨24, _⟩ => ⟨S4x4096x6144, .f32⟩
  | .hbm, ⟨25, _⟩ => ⟨S4x4096x1024, .f32⟩
  | .hbm, ⟨26, _⟩ => ⟨S4x4096x8x2x2x32, .f32⟩
  | .hbm, ⟨27, _⟩ => ⟨S4x4096x8x2x2x32, .f32⟩
  | .hbm, ⟨28, _⟩ => ⟨S4x4096x16x64, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S4096, .f32⟩
  | .hbm, ⟨46, _⟩ => ⟨S4096x1, .f32⟩
  | .hbm, ⟨47, _⟩ => ⟨S1x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S1x4096x1x32, .f32⟩
  | .hbm, ⟨53, _⟩ => ⟨S4096x32, .f32⟩
  | .hbm, ⟨54, _⟩ => ⟨S1x4096x1x32, .f32⟩
  | .hbm, ⟨55, _⟩ => ⟨S4x4096x16x32, .f32⟩
  | .hbm, ⟨56, _⟩ => ⟨S4x4096x16x32, .f32⟩
  | .hbm, ⟨57, _⟩ => ⟨S4x4096x16x32, .f32⟩
  | .hbm, ⟨58, _⟩ => ⟨S4x4096x16x32, .f32⟩
  | .hbm, ⟨59, _⟩ => ⟨S4x4096x16x32, .f32⟩
  | .hbm, ⟨60, _⟩ => ⟨S4x4096x16x32, .f32⟩
  | .hbm, ⟨61, _⟩ => ⟨S4x4096x16x32, .f32⟩
  | .hbm, ⟨62, _⟩ => ⟨S4x4096x16x32, .f32⟩
  | .hbm, ⟨63, _⟩ => ⟨S4x4096x16x32, .f32⟩
  | .hbm, ⟨64, _⟩ => ⟨S4x4096x16x32, .f32⟩
  | .hbm, ⟨65, _⟩ => ⟨S4x4096x16x32, .f32⟩
  | .hbm, ⟨66, _⟩ => ⟨S4x4096x16x32, .f32⟩
  | .hbm, ⟨67, _⟩ => ⟨S4x4096x16x64, .f32⟩
  | .hbm, ⟨68, _⟩ => ⟨S4x4096x8x2x2x32, .f32⟩
  | .hbm, ⟨69, _⟩ => ⟨S4x4096x8x2x2x32, .f32⟩
  | .hbm, ⟨70, _⟩ => ⟨S4x4096x1024, .f32⟩
  | .hbm, ⟨71, _⟩ => ⟨S4x4096x3072, .f32⟩
  | .hbm, ⟨72, _⟩ => ⟨S4x4096x640, .f32⟩
  | .hbm, ⟨73, _⟩ => ⟨S4x4096x5x2x2x32, .f32⟩
  | .hbm, ⟨74, _⟩ => ⟨S4x4096x5x2x2x32, .f32⟩
  | .hbm, ⟨75, _⟩ => ⟨S4x4096x10x64, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S_, .f32⟩
  | .hbm, ⟨84, _⟩ => ⟨S32, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S_, .f32⟩
  | .hbm, ⟨90, _⟩ => ⟨S32, .f32⟩
  | .hbm, ⟨91, _⟩ => ⟨S32, .f32⟩
  | .hbm, ⟨92, _⟩ => ⟨S4096, .f32⟩
  | .hbm, ⟨93, _⟩ => ⟨S4096x1, .f32⟩
  | .hbm, ⟨94, _⟩ => ⟨S1x32, .f32⟩
  | .hbm, ⟨95, _⟩ => ⟨S4096x32, .f32⟩
  | .hbm, ⟨96, _⟩ => ⟨S4096x32, .f32⟩
  | .hbm, ⟨97, _⟩ => ⟨S4096x32, .f32⟩
  | .hbm, ⟨98, _⟩ => ⟨S4096x32, .f32⟩
  | .hbm, ⟨99, _⟩ => ⟨S1x4096x1x32, .f32⟩
  | .hbm, ⟨100, _⟩ => ⟨S4096x32, .f32⟩
  | .hbm, ⟨101, _⟩ => ⟨S1x4096x1x32, .f32⟩
  | .hbm, ⟨102, _⟩ => ⟨S4x4096x10x32, .f32⟩
  | .hbm, ⟨103, _⟩ => ⟨S4x4096x10x32, .f32⟩
  | .hbm, ⟨104, _⟩ => ⟨S4x4096x10x32, .f32⟩
  | .hbm, ⟨105, _⟩ => ⟨S4x4096x10x32, .f32⟩
  | .hbm, ⟨106, _⟩ => ⟨S4x4096x10x32, .f32⟩
  | .hbm, ⟨107, _⟩ => ⟨S4x4096x10x32, .f32⟩
  | .hbm, ⟨108, _⟩ => ⟨S4x4096x10x32, .f32⟩
  | .hbm, ⟨109, _⟩ => ⟨S4x4096x10x32, .f32⟩
  | .hbm, ⟨110, _⟩ => ⟨S4x4096x10x32, .f32⟩
  | .hbm, ⟨111, _⟩ => ⟨S4x4096x10x32, .f32⟩
  | .hbm, ⟨112, _⟩ => ⟨S4x4096x10x32, .f32⟩
  | .hbm, ⟨113, _⟩ => ⟨S4x4096x10x32, .f32⟩
  | .hbm, ⟨114, _⟩ => ⟨S4x4096x10x64, .f32⟩
  | .hbm, ⟨115, _⟩ => ⟨S4x4096x5x2x2x32, .f32⟩
  | .hbm, ⟨116, _⟩ => ⟨S4x4096x5x2x2x32, .f32⟩
  | .hbm, ⟨117, _⟩ => ⟨S4x4096x640, .f32⟩
  | .hbm, ⟨118, _⟩ => ⟨S4x4096x1408, .f32⟩
  | .hbm, ⟨119, _⟩ => ⟨S4x4096x6144, .f32⟩
  | .hbm, ⟨120, _⟩ => ⟨S16384x6144, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_7 : Ref sig .tc := ⟨.hbm, 77, rfl⟩
abbrev main_v66 : Ref sig .tc := ⟨.hbm, 78, rfl⟩
abbrev main_v67 : Ref sig .tc := ⟨.hbm, 79, rfl⟩
abbrev main_cst_8 : Ref sig .tc := ⟨.hbm, 80, rfl⟩
abbrev main_v68 : Ref sig .tc := ⟨.hbm, 81, rfl⟩
abbrev main_v69 : Ref sig .tc := ⟨.hbm, 82, rfl⟩
abbrev main_cst_9 : Ref sig .tc := ⟨.hbm, 83, rfl⟩
abbrev main_v70 : Ref sig .tc := ⟨.hbm, 84, rfl⟩
abbrev main_v71 : Ref sig .tc := ⟨.hbm, 85, rfl⟩
abbrev main_cst_10 : Ref sig .tc := ⟨.hbm, 86, rfl⟩
abbrev main_v72 : Ref sig .tc := ⟨.hbm, 87, rfl⟩
abbrev main_v73 : Ref sig .tc := ⟨.hbm, 88, rfl⟩
abbrev main_cst_11 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩

abbrev nD : Nat := 1
abbrev τ : Topo := Topo.v7x

variable {F : FTy → Type} [FloatOps F]
-- ==== Prep.lean ====
abbrev S4x2048x5896 : Shape := ⟨3, ![4, 2048, 5896]⟩
abbrev S4x5896x2048 : Shape := ⟨3, ![4, 5896, 2048]⟩
abbrev S4x6144x2048 : Shape := ⟨3, ![4, 6144, 2048]⟩
abbrev S1x5896x256 : Shape := ⟨3, ![1, 5896, 256]⟩
abbrev S1x6144x256 : Shape := ⟨3, ![1, 6144, 256]⟩
abbrev S1x32x256 : Shape := ⟨3, ![1, 32, 256]⟩
abbrev S32x256 : Shape := ⟨2, ![32, 256]⟩
abbrev S1x64x256 : Shape := ⟨3, ![1, 64, 256]⟩
abbrev S64x256 : Shape := ⟨2, ![64, 256]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S1x128x256 : Shape := ⟨3, ![1, 128, 256]⟩
abbrev S128x256 : Shape := ⟨2, ![128, 256]⟩
abbrev S1x8x256 : Shape := ⟨3, ![1, 8, 256]⟩
abbrev S8x256 : Shape := ⟨2, ![8, 256]⟩
abbrev S248x256 : Shape := ⟨2, ![248, 256]⟩
abbrev S256x256 : Shape := ⟨2, ![256, 256]⟩
abbrev S1x256x256 : Shape := ⟨3, ![1, 256, 256]⟩

abbrev nBuf : Space → Nat
  | .hbm => 3
  | .vmem => 4
  | .smem => 0
  | _ => 0

abbrev bufTy : (tb : Table) → Fin (tcTables nBuf tb) → BufTy
  | .hbm, ⟨0, _⟩ => ⟨S4x2048x5896, .f32⟩
  | .hbm, ⟨1, _⟩ => ⟨S4x5896x2048, .f32⟩
  | .hbm, ⟨2, _⟩ => ⟨S4x6144x2048, .bf16⟩
  | .local _ .vmem, ⟨0, _⟩ => ⟨S1x5896x256, .f32⟩
  | .local _ .vmem, ⟨1, _⟩ => ⟨S1x5896x256, .f32⟩
  | .local _ .vmem, ⟨2, _⟩ => ⟨S1x6144x256, .bf16⟩
  | .local _ .vmem, ⟨3, _⟩ => ⟨S1x6144x256, .bf16⟩
  | _, _ => ⟨S4x2048x5896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x5896x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6144x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PrepRefIdeal.lean ====
abbrev S4x2048x5896 : Shape := ⟨3, ![4, 2048, 5896]⟩
abbrev S4x5896x2048 : Shape := ⟨3, ![4, 5896, 2048]⟩
abbrev S4x512x2048 : Shape := ⟨3, ![4, 512, 2048]⟩
abbrev S4x1024x2048 : Shape := ⟨3, ![4, 1024, 2048]⟩
abbrev S4x8x2048 : Shape := ⟨3, ![4, 8, 2048]⟩
abbrev S4x128x2048 : Shape := ⟨3, ![4, 128, 2048]⟩
abbrev S4x4x2x2x32x2048 : Shape := ⟨6, ![4, 4, 2, 2, 32, 2048]⟩
abbrev S4x2x4x64x2048 : Shape := ⟨5, ![4, 2, 4, 64, 2048]⟩
abbrev S4x4x2x64x2048 : Shape := ⟨5, ![4, 4, 2, 64, 2048]⟩
abbrev S4x1x2x2x32x2048 : Shape := ⟨6, ![4, 1, 2, 2, 32, 2048]⟩
abbrev S_ : Shape := ⟨0, ![]⟩
abbrev S4x248x2048 : Shape := ⟨3, ![4, 248, 2048]⟩
abbrev S4x6144x2048 : Shape := ⟨3, ![4, 6144, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x5896, .f32⟩
  | .hbm, ⟨1, _⟩ => ⟨S4x5896x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x1024x2048, .f32⟩
  | .hbm, ⟨7, _⟩ => ⟨S4x8x2048, .f32⟩
  | .hbm, ⟨8, _⟩ => ⟨S4x512x2048, .f32⟩
  | .hbm, ⟨9, _⟩ => ⟨S4x512x2048, .f32⟩
  | .hbm, ⟨10, _⟩ => ⟨S4x128x2048, .f32⟩
  | .hbm, ⟨11, _⟩ => ⟨S4x128x2048, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S4x4x2x2x32x2048, .f32⟩
  | .hbm, ⟨16, _⟩ => ⟨S4x4x2x2x32x2048, .f32⟩
  | .hbm, ⟨17, _⟩ => ⟨S4x512x2048, .f32⟩
  | .hbm, ⟨18, _⟩ => ⟨S4x4x2x2x32x2048, .f32⟩
  | .hbm, ⟨19, _⟩ => ⟨S4x4x2x2x32x2048, .f32⟩
  | .hbm, ⟨20, _⟩ => ⟨S4x512x2048, .f32⟩
  | .hbm, ⟨21, _⟩ => ⟨S4x2x4x64x2048, .f32⟩
  | .hbm, ⟨22, _⟩ => ⟨S4x4x2x64x2048, .f32⟩
  | .hbm, ⟨23, _⟩ => ⟨S4x512x2048, .f32⟩
  | .hbm, ⟨24, _⟩ => ⟨S4x2x4x64x2048, .f32⟩
  | .hbm, ⟨25, _⟩ => ⟨S4x4x2x64x2048, .f32⟩
  | .hbm, ⟨26, _⟩ => ⟨S4x512x2048, .f32⟩
  | .hbm, ⟨27, _⟩ => ⟨S4x4x2x2x32x2048, .f32⟩
  | .hbm, ⟨28, _⟩ => ⟨S4x4x2x2x32x2048, .f32⟩
  | .hbm, ⟨29, _⟩ => ⟨S4x512x2048, .f32⟩
  | .hbm, ⟨30, _⟩ => ⟨S4x1x2x2x32x2048, .f32⟩
  | .hbm, ⟨31, _⟩ => ⟨S4x1x2x2x32x2048, .f32⟩
  | .hbm, ⟨32, _⟩ => ⟨S4x128x2048, .f32⟩
  | .hbm, ⟨33, _⟩ => ⟨S_, .f32⟩
  | .hbm, ⟨34, _⟩ => ⟨S4x248x2048, .f32⟩
  | .hbm, ⟨35, _⟩ => ⟨S4x6144x2048, .f32⟩
  | .hbm, ⟨36, _⟩ => ⟨S4x6144x2048, .bf16⟩
  | _, _ => ⟨S4x2048x5896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_cst : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩

abbrev nD : Nat := 1
abbrev τ : Topo := Topo.v7x

variable {F : FTy → Type} [FloatOps F]
-- ==== Proof.SwaMath.lean ====
/- The mathematics of the sliding-window attention, over extended reals: one query's softmax over the 256 keys of its band
   and a sink. The kernel divides the weighted sum of the values by the weights' sum and scores a pair of heads over 128
   lanes with the other head's lanes at zero; the plain program divides every weight and scores one head over its 64
   channels. The two agree at finite activations. -/
module

public import Idealize.ShloMosaic.Lib.Pointwise
public import Idealize.ShloMosaic.Lib.IdealHost

@[expose] public section

noncomputable section

namespace Cert.Proof.SwaMath

open Idealize.ShloMosaic
open scoped BigOperators

/-- The kernel's scale, an eighth. -/
def scale : EReal := Ideal.ofBits .f32 0x3E000000#32

theorem scale_eq : scale = (((1 : ℝ) / 8 : ℝ) : EReal) := by
  unfold scale
  simp [Ideal.ofBits, Ideal.ieee, -EReal.coe_mul]; norm_num

/-- The largest of the scores and the sink. -/
def top (s : Fin 256 → EReal) (z : EReal) : EReal := max (Finset.univ.fold max (Ideal.ofBits .f32 0xFF800000#32) s) z

/-- The kernel's softmax: the weighted sum of the values over the sum of the weights. -/
def blend (s v : Fin 256 → EReal) (z : EReal) : EReal :=
  Ideal.div (∑ j, Ideal.exp (s j - top s z) * v j) (∑ j, Ideal.exp (s j - top s z) + Ideal.exp (z - top s z))

/-- The scores and, after them, the sink. -/
def withSink (s : Fin 256 → EReal) (z : EReal) (j : Fin 257) : EReal := if h : j.val < 256 then s ⟨j.val, h⟩ else z

/-- The largest of the scores and the sink, as the plain program takes it. -/
def top' (s : Fin 256 → EReal) (z : EReal) : EReal :=
  max (Ideal.ofBits .f32 0xFF800000#32) (Finset.univ.fold max (Ideal.ofBits .f32 0xFF800000#32) (withSink s z))

/-- The plain program's softmax: every weight divided by the sum of all, the sink's among them. -/
def soften (s v : Fin 256 → EReal) (z : EReal) : EReal :=
  ∑ j, v j * Ideal.div (Ideal.exp (s j - top' s z)) (∑ j, Ideal.exp (withSink s z j - top' s z))

theorem neg_inf : Ideal.ofBits .f32 0xFF800000#32 = (⊥ : EReal) := by
  simp [Ideal.ofBits, Ideal.ieee]

/-- A largest element taken by folding from minus infinity is a supremum. -/
theorem fold_eq_sup {n : Nat} (s : Fin n → EReal) :
    Finset.univ.fold max (Ideal.ofBits .f32 0xFF800000#32) s = Finset.univ.sup s := by
  rw [neg_inf]; rfl

theorem withSink_castSucc (s : Fin 256 → EReal) (z : EReal) (j : Fin 256) : withSink s z j.castSucc = s j := by
  unfold withSink; rw [dif_pos (by exact j.isLt)]; rfl

theorem withSink_last (s : Fin 256 → EReal) (z : EReal) : withSink s z (Fin.last 256) = z := by
  unfold withSink; rw [dif_neg (by simp)]

/-- Both programs take the same largest element. -/
theorem top_eq (s : Fin 256 → EReal) (z : EReal) : top' s z = top s z := by
  unfold top' top
  rw [fold_eq_sup, fold_eq_sup, neg_inf, max_eq_right bot_le]
  refine le_antisymm (Finset.sup_le fun j _ => ?_) (max_le (Finset.sup_le fun j _ => ?_) ?_)
  · induction j using Fin.lastCases with
    | last => rw [withSink_last]; exact le_max_right _ _
    | cast j => rw [withSink_castSucc]; exact le_max_of_le_left (Finset.le_sup (f := s) (Finset.mem_univ j))
  · rw [← withSink_castSucc s z j]; exact Finset.le_sup (f := withSink s z) (Finset.mem_univ _)
  · rw [← withSink_last s z]
    exact Finset.le_sup (f := withSink s z) (Finset.mem_univ (Fin.last 256))

/-- A score that is finite where the key is in the band, and minus infinity elsewhere. -/
def banded (p : Fin 256 → Prop) [DecidablePred p] (s : Fin 256 → EReal) (j : Fin 256) : EReal := if p j then s j else ⊥

/-- At finite scores, values and sink the largest element is finite. -/
theorem top_coe (p : Fin 256 → Prop) [DecidablePred p] (s : Fin 256 → ℝ) (z : ℝ) :
    ∃ μ : ℝ, top (banded p fun j => (s j : EReal)) z = μ := by
  have hb : top (banded p fun j => (s j : EReal)) z ≠ ⊥ :=
    ne_bot_of_le_ne_bot (EReal.coe_ne_bot z) (le_max_right _ _)
  have ht : top (banded p fun j => (s j : EReal)) z ≠ ⊤ := by
    unfold top
    rw [fold_eq_sup]
    refine ne_of_lt (max_lt ?_ (EReal.coe_lt_top z))
    rw [Finset.sup_lt_iff (by exact bot_lt_top)]
    intro j _
    unfold banded
    split_ifs
    · exact EReal.coe_lt_top _
    · exact bot_lt_top
  exact ⟨_, (EReal.coe_toReal ht hb).symm⟩

/-- A weight: an exponential at a finite score, zero at minus infinity. -/
theorem weight_eq (p : Fin 256 → Prop) [DecidablePred p] (s : Fin 256 → ℝ) (μ : ℝ) (j : Fin 256) :
    Ideal.exp (banded p (fun j => (s j : EReal)) j - (μ : EReal)) = ((if p j then Real.exp (s j - μ) else 0 : ℝ) : EReal) := by
  unfold banded
  split_ifs
  · rw [← EReal.coe_sub]; rfl
  · rw [EReal.bot_sub]; rfl

theorem sum_coe {n : Nat} (f : Fin n → ℝ) : ∑ j, ((f j : ℝ) : EReal) = ((∑ j, f j : ℝ) : EReal) := by
  induction n with
  | zero => simp
  | succ n ih => rw [Fin.sum_univ_succ, Fin.sum_univ_succ, ih, EReal.coe_add]

/-- The two softmaxes agree at finite activations. Where a key is outside the band its value does not matter. -/
theorem soften_eq_blend (p : Fin 256 → Prop) [DecidablePred p] (s : Fin 256 → ℝ) (z : ℝ) (v : Fin 256 → ℝ)
    (v' : Fin 256 → EReal) (hv : ∀ j, p j → v' j = v j) :
    soften (banded p fun j => (s j : EReal)) v' z = blend (banded p fun j => (s j : EReal)) (fun j => (v j : EReal)) z := by
  obtain ⟨μ, hμ⟩ := top_coe p s z
  unfold soften blend
  rw [top_eq, hμ, Fin.sum_univ_castSucc (n := 256)]
  simp only [withSink_castSucc, withSink_last, weight_eq, ← EReal.coe_sub, sum_coe]
  have hz : Ideal.exp ((z - μ : ℝ) : EReal) = ((Real.exp (z - μ) : ℝ) : EReal) := rfl
  rw [hz, ← EReal.coe_add]
  set w : Fin 256 → ℝ := fun j => if p j then Real.exp (s j - μ) else 0 with hw
  have hw0 : ∀ j, 0 ≤ w j := fun j => by
    show 0 ≤ if p j then _ else _
    split_ifs
    · exact (Real.exp_pos _).le
    · exact le_refl _
  have hd : (∑ j, w j) + Real.exp (z - μ) ≠ 0 :=
    ne_of_gt (add_pos_of_nonneg_of_pos (Finset.sum_nonneg fun j _ => hw0 j) (Real.exp_pos _))
  have h1 (j : Fin 256) : v' j * Ideal.div ((w j : ℝ) : EReal) (((∑ j, w j) + Real.exp (z - μ) : ℝ) : EReal)
      = ((v j * (w j / ((∑ j, w j) + Real.exp (z - μ))) : ℝ) : EReal) := by
    rw [Ideal.div_coe hd, ← EReal.coe_mul, mul_one_div]
    by_cases h : p j
    · rw [hv j h, ← EReal.coe_mul]
    · have e : w j = 0 := if_neg h
      rw [e, zero_div, mul_zero, EReal.coe_zero, mul_zero]
  have h2 (j : Fin 256) : ((w j : ℝ) : EReal) * (v j : EReal) = ((w j * v j : ℝ) : EReal) := (EReal.coe_mul _ _).symm
  show ∑ j, v' j * Ideal.div ((w j : ℝ) : EReal) (((∑ j, w j) + Real.exp (z - μ) : ℝ) : EReal)
    = Ideal.div (∑ j, ((w j : ℝ) : EReal) * (v j : EReal)) (((∑ j, w j) + Real.exp (z - μ) : ℝ) : EReal)
  simp only [h1, h2, sum_coe]
  rw [Ideal.div_coe hd, ← EReal.coe_mul, mul_one_div, Finset.sum_div]
  exact congrArg _ (Finset.sum_congr rfl fun j _ => by rw [mul_div_assoc', mul_comm (w j)])

/-- The lane of a channel: a pair's lanes are (half of the head, head of the pair, 32). -/
def chan (c : Fin 2) (d : Fin 64) : Fin 128 := ⟨d.val / 32 * 64 + c.val * 32 + d.val % 32, by omega⟩

/-- The kernel's score of one head of a pair: over all the lanes, the other head's at zero. -/
def lanes (c : Nat) (q k : Fin 128 → EReal) : EReal := ∑ l : Fin 128, if l.val / 32 % 2 = c then q l * scale * k l else 0

/-- The plain program's score of a head. -/
def dots (q k : Fin 64 → EReal) : EReal := (∑ d, k d * q d) * scale

/-- The two scores agree at finite activations, and are finite. -/
theorem lanes_eq (c : Fin 2) (q k : Fin 128 → EReal) (a b : Fin 128 → ℝ) (hq : ∀ l, q l = a l) (hk : ∀ l, k l = b l) :
    lanes c.val q k = ((∑ d, b (chan c d) * a (chan c d)) * (1 / 8) : ℝ)
      ∧ dots (fun d => q (chan c d)) (fun d => k (chan c d)) = ((∑ d, b (chan c d) * a (chan c d)) * (1 / 8) : ℝ) := by
  have hinj : Function.Injective (chan c) := fun d e h => by
    have h' := congrArg Fin.val h
    simp only [chan] at h'
    have := c.isLt
    exact Fin.ext (by omega)
  constructor
  · have h : lanes c.val q k = ∑ d, q (chan c d) * scale * k (chan c d) := by
      unfold lanes
      refine (Finset.sum_of_injOn (chan c) hinj.injOn (fun _ _ => Finset.mem_univ _) (fun l _ hl => ?_) fun d _ => ?_).symm
      · refine if_neg fun e => hl ⟨⟨l.val / 64 * 32 + l.val % 32, by omega⟩, Finset.mem_coe.2 (Finset.mem_univ _), Fin.ext ?_⟩
        simp only [chan]
        omega
      · rw [if_pos]
        simp only [chan]
        have := c.isLt
        omega
    rw [h, Finset.sum_mul, ← sum_coe]
    refine Finset.sum_congr rfl fun d _ => ?_
    rw [hq, hk, scale_eq, ← EReal.coe_mul, ← EReal.coe_mul]
    exact congrArg _ (by ring)
  · unfold dots
    simp only [hq, hk, ← EReal.coe_mul, sum_coe, scale_eq]

end Cert.Proof.SwaMath

end
-- ==== Proof.SwaPair.lean ====
/- The kernel of the sliding-window attention, one pair of heads over one window of queries. -/
module

public import proofs.«01_k».proof.Proof.Gen.SwaIdeal.Value
public import proofs.«01_k».proof.Proof.SwaMath
public import Idealize.ShloMosaic.Lib.KernelVsHost

@[expose] public section

set_option maxRecDepth 16384

noncomputable section

namespace Cert.Proof.SwaPair

open Cert.SwaIdeal Cert.SwaIdeal.Gen Cert.SwaIdeal.Value Idealize.ShloMosaic Idealize.ShloMosaic.TcCoe Idealize.SL.Sem SwaMath

theorem hz3 : (![0, 0, 0] : Fin 3 → Nat) = fun _ => 0 := funext fun a => by fin_cases a <;> rfl

/-- The number of a lane. -/
def lane : IVec S128x128 32 := iota .tc S128x128 32 [1] iota_S128x128_d1_w32

/-- The scores of a window's 128 queries with its 256 keys, from the lanes that `m` keeps. -/
def scores (m : IVec S128x128 1) (valid : IVec S128x256 1) (kw : FVec Ideal S256x128 .bf16) (q : FVec Ideal S128x128 .f32) :
    FVec Ideal S128x256 .f32 :=
  select valid (matmul dot_S128x128_S256x128_S128x256_1_1_0_0_n_n none
    (truncf .bf16 (mulf (select m q (broadcast S128x128 (Scalar.ofBits .f32 0x00000000#32))) (broadcast S128x128 (Scalar.ofBits .f32 0x3E000000#32))) bitsLt_bf16_f32)
    kw (constant S128x256 .f32 0x00000000#32)) (broadcast S128x256 (Named.named κ "mask" 0xF149F2CA#32))

theorem bit_select {c : BitVec 1} {p : Prop} [Decidable p] {α : Type} (h : c = if p then 1#1 else 0#1) (a b : α) :
    Scalar.select c a b = if p then a else b := by
  subst h
  unfold Scalar.select
  split_ifs <;> first | rfl | contradiction | simp_all

/-- The scores at one entry. -/
theorem scores_apply (c : Nat) (m : IVec S128x128 1)
    (hm : ∀ r l : Fin 128, m (ix2 r l) = if l.val / 32 % 2 = c then 1#1 else 0#1) (valid : IVec S128x256 1)
    (kw : FVec Ideal S256x128 .bf16) (q : FVec Ideal S128x128 .f32) (r : Fin 128) (j : Fin 256) (p : Prop) [Decidable p]
    (hp : valid (ix2 r j) = if p then 1#1 else 0#1) :
    scores m valid kw q (ix2 r j) = if p then lanes c (fun l => q (ix2 r l)) (fun l => kw (ix2 j l)) else ⊥ := by
  have hn : (Named.named (F := Ideal) (φ := .f32) κ "mask" 0xF149F2CA#32 : EReal) = ⊥ := IdealRules.named_const.ideal_named_scalar _ _ _ _ rfl
  pointwise [scores]
  rw [hn]
  refine (bit_select hp _ _).trans ?_
  refine if_congr Iff.rfl (Finset.sum_congr rfl fun l _ => ?_) rfl
  exact bit_select (hm r l) _ _

/-- The first head of a pair keeps the lanes whose number over 32 is even. -/
theorem pay12_eq (valid : IVec S128x256 1) (kw : FVec Ideal S256x128 .bf16) (q : FVec Ideal S128x128 .f32) :
    ∃ m : IVec S128x128 1, (∀ r l : Fin 128, m (ix2 r l) = if l.val / 32 % 2 = 0 then 1#1 else 0#1)
      ∧ k0_pay12 lane valid kw q 32#32 k0_pay9 k0_pay10 k0_pay11 = scores m valid kw q := by
  refine ⟨_, ?_, rfl⟩
  intro r l
  pointwise [lane, k0_pay9, k0_pay10, k0_pay11]
  revert l
  decide +kernel

/-- The second head keeps the others, and fills the right half of the pair's lanes. -/
theorem pay16_eq (valid : IVec S128x256 1) (kw vw : FVec Ideal S256x128 .bf16) (q h : FVec Ideal S128x128 .f32)
    (z : Elt Ideal .f32) :
    ∃ m : IVec S128x128 1, (∀ r l : Fin 128, m (ix2 r l) = if l.val / 32 % 2 = 1 then 1#1 else 0#1)
      ∧ k0_pay16 lane valid kw vw q h 2#32 (k0_pay14 lane) k0_pay15 z
        = select (cmpi .slt lane (broadcast S128x128 64#32)) h (k0_pay13 vw (scores m valid kw q) z) := by
  refine ⟨_, ?_, rfl⟩
  intro r l
  pointwise [lane, k0_pay14, k0_pay15]
  revert l
  decide +kernel

/-- A pair of heads over a window of 128 queries and 256 keys: the two softmaxes, gated. -/
def pair (valid : IVec S128x256 1) (kw vw : FVec Ideal S256x128 .bf16) (q g : Vec Ideal S1x128x128 .f32)
    (z0 z1 : Elt Ideal .f32) : FVec Ideal S1x128x128 .bf16 :=
  k0_pay18 (k0_pay16 lane valid kw vw (k0_pay8 q) (k0_pay13 vw (k0_pay12 lane valid kw (k0_pay8 q) 32#32 k0_pay9 k0_pay10 k0_pay11) z0)
    2#32 (k0_pay14 lane) k0_pay15 z1) (k0_pay17 g) (Scalar.ofBits .f32 0x00000000#32)

/-- The gate. -/
def gate (x : EReal) : EReal := Ideal.div x (1 + Ideal.exp (0 - x))

theorem pay13_apply (vw : FVec Ideal S256x128 .bf16) (s : FVec Ideal S128x256 .f32) (z : Elt Ideal .f32) (r l : Fin 128) :
    k0_pay13 vw s z (ix2 r l) = blend (fun j => s (ix2 r j)) (fun j => vw (ix2 j l)) z := by
  pointwise [k0_pay13]
  rfl

theorem pay18_apply (a g : FVec Ideal S128x128 .f32) (r l : Fin 128) :
    k0_pay18 a g (Scalar.ofBits .f32 0x00000000#32) (ix3 (0 : Fin 1) r l) = a (ix2 r l) * gate (g (ix2 r l)) := by
  pointwise [k0_pay18]
  rfl

theorem left_apply (r l : Fin 128) :
    cmpi .slt lane (broadcast S128x128 64#32) (ix2 r l) = if l.val / 64 % 2 = 0 then 1#1 else 0#1 := by
  pointwise [lane]
  revert l
  decide +kernel

/-- The band of one query: a key's score where the key is near enough, minus infinity elsewhere. -/
def bandScore (p : Fin 256 → Prop) [DecidablePred p] (c : Nat) (q : Fin 128 → EReal) (k : Fin 256 → Fin 128 → EReal) (j : Fin 256) : EReal :=
  if p j then lanes c q (k j) else ⊥

/-- A pair of heads at one entry. -/
theorem pair_apply (valid : IVec S128x256 1) (kw vw : FVec Ideal S256x128 .bf16) (q g : Vec Ideal S1x128x128 .f32)
    (z0 z1 : Elt Ideal .f32) (r l : Fin 128) (p : Fin 256 → Prop) [DecidablePred p]
    (hp : ∀ j, valid (ix2 r j) = if p j then 1#1 else 0#1) :
    pair valid kw vw q g z0 z1 (ix3 (0 : Fin 1) r l)
      = blend (bandScore p (l.val / 64 % 2) (fun l => q (ix3 (0 : Fin 1) r l)) fun j l => kw (ix2 j l)) (fun j => vw (ix2 j l))
          (if l.val / 64 % 2 = 0 then z0 else z1) * gate (g (ix3 (0 : Fin 1) r l)) := by
  obtain ⟨m0, h0, e0⟩ := pay12_eq valid kw (k0_pay8 q)
  obtain ⟨m1, h1, e1⟩ := pay16_eq valid kw vw (k0_pay8 q) (k0_pay13 vw (scores m0 valid kw (k0_pay8 q)) z0) z1
  have hq (l : Fin 128) : k0_pay8 q (ix2 r l) = q (ix3 (0 : Fin 1) r l) := by pointwise [k0_pay8]
  have hg : k0_pay17 g (ix2 r l) = g (ix3 (0 : Fin 1) r l) := by pointwise [k0_pay17]
  unfold pair
  rw [e0, e1, pay18_apply, hg]
  refine congrArg (· * gate (g (ix3 (0 : Fin 1) r l))) ?_
  refine (bit_select (left_apply r l) (k0_pay13 vw (scores m0 valid kw (k0_pay8 q)) z0 (ix2 r l)) (k0_pay13 vw (scores m1 valid kw (k0_pay8 q)) z1 (ix2 r l))).trans ?_
  rw [pay13_apply, pay13_apply]
  by_cases hl : l.val / 64 % 2 = 0
  · rw [if_pos hl, if_pos hl, hl]
    refine congrArg (fun s => blend s (fun j => vw (ix2 j l)) z0) (funext fun j => ?_)
    simp only [scores_apply 0 m0 h0 valid kw (k0_pay8 q) r j (p j) (hp j), hq]
    rfl
  · rw [if_neg hl, if_neg hl, show l.val / 64 % 2 = 1 by omega]
    refine congrArg (fun s => blend s (fun j => vw (ix2 j l)) z1) (funext fun j => ?_)
    simp only [scores_apply 1 m1 h1 valid kw (k0_pay8 q) r j (p j) (hp j), hq]
    rfl

/-- The band in a window: a key after the query less 128, and not after the query. -/
theorem pay4_apply (r : Fin 128) (j : Fin 256) :
    k0_pay4 (ix2 r j) = if r.val < j.val ∧ j.val ≤ r.val + 128 then 1#1 else 0#1 := by
  pointwise [k0_pay4]
  revert r j
  decide +kernel

/-- The band in the first window of a block: at the first block there is no key before the window. -/
theorem pay5_apply (i : grid0.Coords) (r : Fin 128) (j : Fin 256) :
    k0_pay5 i (ix2 r j) = if (r.val < j.val ∧ j.val ≤ r.val + 128) ∧ (0 < (i 1).val ∨ 128 ≤ j.val) then 1#1 else 0#1 := by
  have h : k0_pay5 i (ix2 r j) = IntOp.andi (k0_pay4 (ix2 r j))
      (IntOp.ori (Scalar.cmpi .sgt (BitVec.ofNat 32 (i 1).val) 0#32) (IntOp.cmpi .sge (BitVec.ofNat 32 j.val) 128#32)) := by
    pointwise [k0_pay5, k0_pay4]
  have hi : Scalar.cmpi .sgt (BitVec.ofNat 32 (i 1).val) 0#32 = if 0 < (i 1).val then 1#1 else 0#1 := by
    have : ∀ n : Fin 8, Scalar.cmpi .sgt (BitVec.ofNat 32 n.val) 0#32 = if 0 < n.val then 1#1 else 0#1 := by decide +kernel
    exact this (i 1)
  have hj : IntOp.cmpi .sge (BitVec.ofNat 32 j.val) 128#32 = if 128 ≤ j.val then 1#1 else 0#1 := by
    clear h
    revert j; decide +kernel
  rw [h, pay4_apply, hi, hj]
  split_ifs <;> first | rfl | (exfalso; omega)

end Cert.Proof.SwaPair

end
-- ==== Proof.SwaKernel.lean ====
/- The kernel of the sliding-window attention, read at one entry of one block. -/
module

public import proofs.«01_k».proof.Proof.Gen.SwaIdeal.Value
public import proofs.«01_k».proof.Proof.SwaPair
public import Idealize.ShloMosaic.Lib.KernelVsHost

@[expose] public section

set_option maxRecDepth 16384

noncomputable section

namespace Cert.Proof.SwaKernel

open Cert.SwaIdeal Cert.SwaIdeal.Gen Cert.SwaIdeal.Value Idealize.ShloMosaic Idealize.ShloMosaic.TcCoe Idealize.SL.Sem SwaMath SwaPair

/-- The keys (or values) of a block: 128 rows before it and its own 512. -/
def rows (a : Vec Ideal S1x128x128 .f32) (b : Vec Ideal S1x512x128 .f32) (r : Fin 640) (l : Fin 128) : EReal :=
  if h : r.val < 128 then a (ix3 (0 : Fin 1) (⟨r.val, h⟩ : Fin 128) l) else b (ix3 (0 : Fin 1) (⟨r.val - 128, by omega⟩ : Fin 512) l)

theorem pay2_apply (a : Vec Ideal S1x128x128 .f32) (b : Vec Ideal S1x512x128 .f32) (r : Fin 640) (l : Fin 128) :
    k0_pay2 a b (ix2 r l) = rows a b r l := by
  pointwise [k0_pay2]
  rfl

theorem pay3_apply (a : Vec Ideal S1x128x128 .f32) (b : Vec Ideal S1x512x128 .f32) (r : Fin 640) (l : Fin 128) :
    k0_pay3 a b (ix2 r l) = rows a b r l := by
  pointwise [k0_pay3]
  rfl

/-- The band of a block's query: whether the block is the first decides for the queries of its first window. -/
def near (n : Nat) (t : Nat) (j : Fin 256) : Prop :=
  (t % 128 < j.val ∧ j.val ≤ t % 128 + 128) ∧ (0 < n ∨ 128 ≤ t ∨ 128 ≤ j.val)

instance (n t : Nat) : DecidablePred (near n t) := fun _ => inferInstanceAs (Decidable (_ ∧ _))

/-- What a grid point writes, at one entry. -/
def G (n : Nat) (x0 : Vec Ideal S8 .f32) (x1 : Vec Ideal S1x512x512 .f32) (x2 : Vec Ideal S1x128x128 .f32)
    (x3 : Vec Ideal S1x512x128 .f32) (x4 : Vec Ideal S1x128x128 .f32) (x5 : Vec Ideal S1x512x128 .f32)
    (x6 : Vec Ideal S1x512x512 .f32) (t col : Fin 512) : EReal :=
  blend (bandScore (near n t.val) (col.val / 64 % 2) (fun l => x1 (ix3 (0 : Fin 1) t (⟨128 * (col.val / 128) + l.val, by omega⟩ : Fin 512)))
      fun j l => rows x2 x3 ⟨128 * (t.val / 128) + j.val, by omega⟩ l)
    (fun j => rows x4 x5 ⟨128 * (t.val / 128) + j.val, by omega⟩ ⟨col.val % 128, by omega⟩)
    (x0 (ix1 (⟨2 * (col.val / 128) + col.val / 64 % 2, by omega⟩ : Fin 8))) * gate (x6 (ix3 (0 : Fin 1) t col))

/-- A store of a pair over a window, as a piece of what the grid point writes. -/
theorem piece (i : grid0.Coords) (w p : Nat) (hw : w < 4) (hp : p < 4) (valid : IVec S128x256 1)
    (hvalid : ∀ (r : Fin 128) (j : Fin 256), valid (ix2 r j) = if near (i 1).val (128 * w + r.val) j then 1#1 else 0#1)
    (x0 : Vec Ideal S8 .f32) (x1 : Vec Ideal S1x512x512 .f32) (x2 : Vec Ideal S1x128x128 .f32)
    (x3 : Vec Ideal S1x512x128 .f32) (x4 : Vec Ideal S1x128x128 .f32) (x5 : Vec Ideal S1x512x128 .f32)
    (x6 : Vec Ideal S1x512x512 .f32)
    (kw vw : FVec Ideal S256x128 .bf16) (hs : S640x128.Slices ![128 * w, 0] S256x128)
    (hk : kw = extractStridedSlice S256x128 ![128 * w, 0] (k0_pay2 x2 x3) hs)
    (hv : vw = extractStridedSlice S256x128 ![128 * w, 0] (k0_pay3 x4 x5) hs)
    (q g : Vec Ideal S1x128x128 .f32) (inb : ∀ a, (![0, 128 * w, 128 * p] : Fin 3 → Nat) a + ![1, 128, 128] a ≤ S1x512x512.size a)
    (hq : q = View.ld x1 (Rect.unit (s := S1x512x512) ![0, 128 * w, 128 * p] ![1, 128, 128] inb))
    (hg : g = View.ld x6 (Rect.unit (s := S1x512x512) ![0, 128 * w, 128 * p] ![1, 128, 128] inb))
    (z0 z1 : Elt Ideal .f32) (h0 : z0 = x0 (ix1 (⟨2 * p, by omega⟩ : Fin 8))) (h1 : z1 = x0 (ix1 (⟨2 * p + 1, by omega⟩ : Fin 8)))
    (x : S1x128x128.Idx) :
    pair valid kw vw q g z0 z1 x
      = (fun y : S1x512x512.Idx => G (i 1).val x0 x1 x2 x3 x4 x5 x6 (y 1) (y 2)) ((Rect.unit (s := S1x512x512) ![0, 128 * w, 128 * p] ![1, 128, 128] inb).emb x) := by
  subst hk hv hq hg h0 h1
  obtain ⟨r, l, rfl⟩ : ∃ (r l : Fin 128), x = ix3 (0 : Fin 1) r l :=
    ⟨x 1, x 2, (eq_ix3 x).trans (congrArg (fun a : Fin 1 => ix3 a (x 1) (x 2)) (Subsingleton.elim _ _))⟩
  have ht (r : Fin 128) : 128 * w + r.val < 512 := by omega
  have hl (l : Fin 128) : 128 * p + l.val < 512 := by omega
  have e (r l : Fin 128) : (Rect.unit (s := S1x512x512) ![0, 128 * w, 128 * p] ![1, 128, 128] inb).emb (ix3 (0 : Fin 1) r l)
      = ix3 (0 : Fin 1) (⟨128 * w + r.val, ht r⟩ : Fin 512) (⟨128 * p + l.val, hl l⟩ : Fin 512) := by
    funext a
    refine Fin.ext ?_
    match a with
    | ⟨0, _⟩ => rfl
    | ⟨1, _⟩ => show 128 * w + 1 * r.val = 128 * w + r.val; omega
    | ⟨2, _⟩ => show 128 * p + 1 * l.val = 128 * p + l.val; omega
  have e' (r l : Fin 128) : (Rect.unit (s := S1x512x512) ![0, 128 * w, 128 * p] ![1, 128, 128] inb).idx (ix3 (0 : Fin 1) r l)
      = ix3 (0 : Fin 1) (⟨128 * w + r.val, ht r⟩ : Fin 512) (⟨128 * p + l.val, hl l⟩ : Fin 512) := e r l
  have es (y : FVec Ideal S640x128 .bf16) (j : Fin 256) (l : Fin 128) :
      extractStridedSlice S256x128 ![128 * w, 0] y hs (ix2 j l) = y (ix2 (⟨128 * w + j.val, by omega⟩ : Fin 640) l) := by
    refine congrArg y (funext fun a => Fin.ext ?_)
    match a with
    | ⟨0, _⟩ => rfl
    | ⟨1, _⟩ => show 0 + l.val = l.val; omega
  rw [e]
  refine (pair_apply valid _ _ _ _ _ _ r l (near (i 1).val (128 * w + r.val)) (hvalid r)).trans ?_
  show _ = G (i 1).val x0 x1 x2 x3 x4 x5 x6 (⟨128 * w + r.val, ht r⟩ : Fin 512) (⟨128 * p + l.val, hl l⟩ : Fin 512)
  have hc : (128 * p + l.val) / 64 % 2 = l.val / 64 % 2 := by omega
  have hd : (128 * p + l.val) / 128 = p := by omega
  have hm : (128 * p + l.val) % 128 = l.val := by omega
  have hw' : (128 * w + r.val) / 128 = w := by omega
  have hz : (if l.val / 64 % 2 = 0 then x0 (ix1 (⟨2 * p, by omega⟩ : Fin 8)) else x0 (ix1 (⟨2 * p + 1, by omega⟩ : Fin 8)))
      = x0 (ix1 (⟨2 * ((128 * p + l.val) / 128) + (128 * p + l.val) / 64 % 2, by omega⟩ : Fin 8)) := by
    split_ifs with h
    · exact congrArg (fun a : Fin 8 => x0 (ix1 a)) (Fin.ext (by show 2 * p = 2 * ((128 * p + l.val) / 128) + (128 * p + l.val) / 64 % 2; omega))
    · exact congrArg (fun a : Fin 8 => x0 (ix1 a)) (Fin.ext (by show 2 * p + 1 = 2 * ((128 * p + l.val) / 128) + (128 * p + l.val) / 64 % 2; omega))
  unfold G
  simp only [es, pay2_apply, pay3_apply, hz, View.ld, e', hc, hd, hm, hw']

/-- A store of a pair over a window, from what the grid point has loaded. -/
theorem stored (i : grid0.Coords)
    (arg2 : Memref sig .tc .smem S8 .f32) (harg2 : arg2.IsWhole)
    (arg3 : Memref sig .tc .vmem S1x512x512 .f32) (harg3 : arg3.IsWhole)
    (arg4 : Memref sig .tc .vmem S1x128x128 .f32) (harg4 : arg4.IsWhole)
    (arg5 : Memref sig .tc .vmem S1x512x128 .f32) (harg5 : arg5.IsWhole)
    (arg6 : Memref sig .tc .vmem S1x128x128 .f32) (harg6 : arg6.IsWhole)
    (arg7 : Memref sig .tc .vmem S1x512x128 .f32) (harg7 : arg7.IsWhole)
    (arg8 : Memref sig .tc .vmem S1x512x512 .f32) (harg8 : arg8.IsWhole)
    (x0 : Vec Ideal S8 .f32) (x1 : Vec Ideal S1x512x512 .f32) (x2 : Vec Ideal S1x128x128 .f32)
    (x3 : Vec Ideal S1x512x128 .f32) (x4 : Vec Ideal S1x128x128 .f32) (x5 : Vec Ideal S1x512x128 .f32)
    (x6 : Vec Ideal S1x512x512 .f32) (w p : Nat) (hw : w < 4) (hp : p < 4) (valid : IVec S128x256 1)
    (hvalid : ∀ (r : Fin 128) (j : Fin 256), valid (ix2 r j) = if near (i 1).val (128 * w + r.val) j then 1#1 else 0#1)
    (hs : S640x128.Slices ![128 * w, 0] S256x128)
    (inb : ∀ a, (![0, 128 * w, 128 * p] : Fin 3 → Nat) a + ![1, 128, 128] a ≤ S1x512x512.size a)
    (i0 : ∀ a, (![2 * p] : Fin 1 → Nat) a + S1.size a ≤ S8.size a) (i1 : ∀ a, (![2 * p + 1] : Fin 1 → Nat) a + S1.size a ≤ S8.size a)
    (n0 : 0 < S1.numel) (x : S1x128x128.Idx) :
    pair valid
        (extractStridedSlice S256x128 ![128 * w, 0] (k0_pay2
          (View.readAt (Elt Ideal) arg4.view (Rect.unit (s := S1x128x128) ![0, 0, 0] S1x128x128.size inb_S1x128x128_S1x128x128_0_0_0).toLoadRect (harg4.unread x2))
          (View.readAt (Elt Ideal) arg5.view (Rect.unit (s := S1x512x128) ![0, 0, 0] S1x512x128.size inb_S1x512x128_S1x512x128_0_0_0).toLoadRect (harg5.unread x3))) hs)
        (extractStridedSlice S256x128 ![128 * w, 0] (k0_pay3
          (View.readAt (Elt Ideal) arg6.view (Rect.unit (s := S1x128x128) ![0, 0, 0] S1x128x128.size inb_S1x128x128_S1x128x128_0_0_0).toLoadRect (harg6.unread x4))
          (View.readAt (Elt Ideal) arg7.view (Rect.unit (s := S1x512x128) ![0, 0, 0] S1x512x128.size inb_S1x512x128_S1x512x128_0_0_0).toLoadRect (harg7.unread x5))) hs)
        (View.readAt (Elt Ideal) arg3.view (Rect.unit (s := S1x512x512) ![0, 128 * w, 128 * p] ![1, 128, 128] inb).toLoadRect (harg3.unread x1))
        (View.readAt (Elt Ideal) arg8.view (Rect.unit (s := S1x512x512) ![0, 128 * w, 128 * p] ![1, 128, 128] inb).toLoadRect (harg8.unread x6))
        (View.readAt (Elt Ideal) arg2.view (Rect.unit (s := S8) ![2 * p] S1.size i0).toLoadRect (harg2.unread x0) (Shape.Idx.first n0))
        (View.readAt (Elt Ideal) arg2.view (Rect.unit (s := S8) ![2 * p + 1] S1.size i1).toLoadRect (harg2.unread x0) (Shape.Idx.first n0)) x
      = (fun y : S1x512x512.Idx => G (i 1).val x0 x1 x2 x3 x4 x5 x6 (y 1) (y 2)) ((Rect.unit (s := S1x512x512) ![0, 128 * w, 128 * p] ![1, 128, 128] inb).emb x) := by
  simp only [View.readAt_eq_ld, harg2.read_unread, harg3.read_unread, harg4.read_unread, harg5.read_unread, harg6.read_unread,
    harg7.read_unread, harg8.read_unread, View.ld_unit_zero (S := S1x128x128) hz3, View.ld_unit_zero (S := S1x512x128) hz3]
  refine piece i w p hw hp valid hvalid x0 x1 x2 x3 x4 x5 x6 _ _ hs rfl rfl _ _ inb rfl rfl _ _ ?_ ?_ x <;>
    exact congrArg x0 (funext fun a => Fin.ext (by match a with | ⟨0, _⟩ => rfl))

/-- What a grid point writes. -/
theorem out_A (c : Dev nD) (i : grid0.Coords)
    (arg2 : Memref sig .tc .smem S8 .f32) (harg2 : arg2.IsWhole)
    (arg3 : Memref sig .tc .vmem S1x512x512 .f32) (harg3 : arg3.IsWhole)
    (arg4 : Memref sig .tc .vmem S1x128x128 .f32) (harg4 : arg4.IsWhole)
    (arg5 : Memref sig .tc .vmem S1x512x128 .f32) (harg5 : arg5.IsWhole)
    (arg6 : Memref sig .tc .vmem S1x128x128 .f32) (harg6 : arg6.IsWhole)
    (arg7 : Memref sig .tc .vmem S1x512x128 .f32) (harg7 : arg7.IsWhole)
    (arg8 : Memref sig .tc .vmem S1x512x512 .f32) (harg8 : arg8.IsWhole)
    (arg9 : Memref sig .tc .vmem S1x512x512 .bf16) (harg9 : arg9.IsWhole)
    (x0 : Vec Ideal S8 .f32) (x1 : Vec Ideal S1x512x512 .f32) (x2 : Vec Ideal S1x128x128 .f32)
    (x3 : Vec Ideal S1x512x128 .f32) (x4 : Vec Ideal S1x128x128 .f32) (x5 : Vec Ideal S1x512x128 .f32)
    (x6 : Vec Ideal S1x512x512 .f32) :
    out0_A_7 c i arg2 harg2 arg3 harg3 arg4 harg4 arg5 harg5 arg6 harg6 arg7 harg7 arg8 harg8 arg9 harg9 x0 x1 x2 x3 x4 x5 x6
      = fun y : S1x512x512.Idx => G (i 1).val x0 x1 x2 x3 x4 x5 x6 (y 1) (y 2) := by
  have v0 (r : Fin 128) (j : Fin 256) : k0_pay5 i (ix2 r j) = if near (i 1).val (128 * 0 + r.val) j then 1#1 else 0#1 := by
    rw [pay5_apply]
    refine if_congr ?_ rfl rfl
    unfold near
    omega
  have v1 (w : Nat) (hw : 0 < w) (r : Fin 128) (j : Fin 256) : k0_pay4 (ix2 r j) = if near (i 1).val (128 * w + r.val) j then 1#1 else 0#1 := by
    rw [pay4_apply]
    refine if_congr ?_ rfl rfl
    unfold near
    omega
  have st := stored i arg2 harg2 arg3 harg3 arg4 harg4 arg5 harg5 arg6 harg6 arg7 harg7 arg8 harg8 x0 x1 x2 x3 x4 x5 x6
  unfold out0_A_7
  rw [View.read_writes_junk_eq_canon]
  funext y
  refine View.canon_apply_of_pieces (fun y : S1x512x512.Idx => G (i 1).val x0 x1 x2 x3 x4 x5 x6 (y 1) (y 2)) _ ?_ y (cover0_A_7 c i arg2 harg2 arg3 harg3 arg4 harg4 arg5 harg5 arg6 harg6 arg7 harg7 arg8 harg8 arg9 harg9 x0 x1 x2 x3 x4 x5 x6 y)
  unfold kernelRun0_A
  dsimp only
  intro p hp
  simp only [List.mem_cons, List.not_mem_nil, or_false] at hp
  rcases hp with rfl | rfl | rfl | rfl | rfl | rfl | rfl | rfl | rfl | rfl | rfl | rfl | rfl | rfl | rfl | rfl
  · exact st 3 3 (by decide) (by decide) k0_pay4 (v1 3 (by decide)) (by decide) (by decide) (by decide) (by decide) (by decide)
  · exact st 3 2 (by decide) (by decide) k0_pay4 (v1 3 (by decide)) (by decide) (by decide) (by decide) (by decide) (by decide)
  · exact st 3 1 (by decide) (by decide) k0_pay4 (v1 3 (by decide)) (by decide) (by decide) (by decide) (by decide) (by decide)
  · exact st 3 0 (by decide) (by decide) k0_pay4 (v1 3 (by decide)) (by decide) (by decide) (by decide) (by decide) (by decide)
  · exact st 2 3 (by decide) (by decide) k0_pay4 (v1 2 (by decide)) (by decide) (by decide) (by decide) (by decide) (by decide)
  · exact st 2 2 (by decide) (by decide) k0_pay4 (v1 2 (by decide)) (by decide) (by decide) (by decide) (by decide) (by decide)
  · exact st 2 1 (by decide) (by decide) k0_pay4 (v1 2 (by decide)) (by decide) (by decide) (by decide) (by decide) (by decide)
  · exact st 2 0 (by decide) (by decide) k0_pay4 (v1 2 (by decide)) (by decide) (by decide) (by decide) (by decide) (by decide)
  · exact st 1 3 (by decide) (by decide) k0_pay4 (v1 1 (by decide)) (by decide) (by decide) (by decide) (by decide) (by decide)
  · exact st 1 2 (by decide) (by decide) k0_pay4 (v1 1 (by decide)) (by decide) (by decide) (by decide) (by decide) (by decide)
  · exact st 1 1 (by decide) (by decide) k0_pay4 (v1 1 (by decide)) (by decide) (by decide) (by decide) (by decide) (by decide)
  · exact st 1 0 (by decide) (by decide) k0_pay4 (v1 1 (by decide)) (by decide) (by decide) (by decide) (by decide) (by decide)
  · exact st 0 3 (by decide) (by decide) (k0_pay5 i) v0 (by decide) (by decide) (by decide) (by decide) (by decide)
  · exact st 0 2 (by decide) (by decide) (k0_pay5 i) v0 (by decide) (by decide) (by decide) (by decide) (by decide)
  · exact st 0 1 (by decide) (by decide) (k0_pay5 i) v0 (by decide) (by decide) (by decide) (by decide) (by decide)
  · exact st 0 0 (by decide) (by decide) (k0_pay5 i) v0 (by decide) (by decide) (by decide) (by decide) (by decide)

end Cert.Proof.SwaKernel

end
-- ==== Proof.SwaValue.lean ====
/- The sliding-window attention's result array. The launch has 32 points, one for each of four sequences and eight blocks of
   512 positions. So every entry is `value` of the arguments. -/
module

public import proofs.«01_k».proof.Proof.SwaKernel
public import Idealize.ShloMosaic.Lib.StableHlo.ReadAt

@[expose] public section

set_option maxRecDepth 16384

noncomputable section

namespace Cert.Proof.SwaValue

open Cert.SwaIdeal Cert.SwaIdeal.Gen Cert.SwaIdeal.Value Idealize.ShloMosaic Idealize.ShloMosaic.TcCoe Idealize.SL.Sem SwaMath SwaPair SwaKernel

/-! ## The result, from the arguments -/

/-- The row of key `j` in the window of the query in row `t`: the window starts 128 rows before the query's 128 rows. In
    the first window the first 128 keys are rows that the band hides. -/
def keyRow (t : Fin 4096) (j : Fin 256) : Fin 4096 :=
  ⟨if 128 ≤ t.val / 128 * 128 + j.val then t.val / 128 * 128 + j.val - 128 else j.val, by split_ifs <;> omega⟩

/-- Entry `(b, t, col)` of the result: the attention of head `col / 128` of group `col / 64 % 2`, gated. -/
def value (X : Vec Ideal S4x4096x6144 .f32) (Z : Vec Ideal S8 .f32) (b : Fin 4) (t : Fin 4096) (col : Fin 512) : EReal :=
  blend (bandScore (near (t.val / 512) (t.val % 512)) (col.val / 64 % 2)
      (fun l => X (ix3 b t (⟨4096 + (128 * (col.val / 128) + l.val), by omega⟩ : Fin 6144)))
      fun j l => X (ix3 b (keyRow t j) (⟨4608 + l.val, by omega⟩ : Fin 6144)))
    (fun j => X (ix3 b (keyRow t j) (⟨4736 + col.val % 128, by omega⟩ : Fin 6144)))
    (Z (ix1 (⟨col.val / 64 % 2 * 4 + col.val / 128, by omega⟩ : Fin 8)))
  * gate (X (ix3 b t (⟨3584 + col.val, by omega⟩ : Fin 6144)))

variable (m : (ℓ : Loc nD τ sig) → Buf (Elt Ideal) ℓ) (ρ : Dev nD → PrngReg)

/-- The sinks in the order the kernel takes them, a head's two groups side by side. -/
theorem sinks (c : Dev nD) (k : Fin 8) :
    V m c main_v2 (ix1 k) = m ((c.tc : Thread nD τ).loc main_arg1) (ix1 (⟨k.val % 2 * 4 + k.val / 2, by omega⟩ : Fin 8)) := by
  unfold V; after_reads_at

/-! ## Each window's block in its array -/

theorem blk0 (c : Dev nD) (t : Fin cfg0.N) (k : Fin 8) :
    iblk m c 0 t (ix1 k) = m ((c.tc : Thread nD τ).loc main_arg1) (ix1 (⟨k.val % 2 * 4 + k.val / 2, by omega⟩ : Fin 8)) := by
  refine Eq.trans ?_ (sinks m c k)
  show V m c main_v2 (((cfg0.win 0).blk t).view.emb (ix1 k)) = _
  have e0 := (by decide +kernel : ∀ t : Fin grid0.N, win0_0.index t (0 : Fin 1) = 0) t
  refine congrArg _ (funext fun a => Fin.ext ?_)
  match a with
  | ⟨0, _⟩ => show win0_0.index t (0 : Fin 1) * 8 + 1 * k.val = k.val; omega

/-- The queries. -/
theorem blk1 (c : Dev nD) (t : Fin cfg0.N) (r k : Fin 512) (b : Fin 4) (hb : b.val = t.val / 8)
    (R : Fin 4096) (hR : R.val = 512 * (t.val % 8) + r.val) (K : Fin 6144) (hK : K.val = 4096 + k.val) :
    iblk m c 1 t (ix3 (0 : Fin 1) r k) = m ((c.tc : Thread nD τ).loc main_arg0) (ix3 b R K) := by
  rw [← V_main_arg0 m c]
  show V m c main_arg0 (((cfg0.win 1).blk t).view.emb (ix3 (0 : Fin 1) r k)) = _
  obtain ⟨e0, e1, e2⟩ := (by decide +kernel : ∀ t : Fin grid0.N, win0_1.index t (0 : Fin 3) = t.val / 8
    ∧ win0_1.index t (1 : Fin 3) = t.val % 8 ∧ win0_1.index t (2 : Fin 3) = 8) t
  refine congrArg _ (funext fun a => Fin.ext ?_)
  match a with
  | ⟨0, _⟩ => show win0_1.index t (0 : Fin 3) * 1 + 1 * 0 = b.val; omega
  | ⟨1, _⟩ => show win0_1.index t (1 : Fin 3) * 512 + 1 * r.val = R.val; omega
  | ⟨2, _⟩ => show win0_1.index t (2 : Fin 3) * 512 + 1 * k.val = K.val; omega

/-- The 128 keys before the block's own; at the first block, the first 128. -/
theorem blk2 (c : Dev nD) (t : Fin cfg0.N) (r k : Fin 128) (b : Fin 4) (hb : b.val = t.val / 8)
    (R : Fin 4096) (hR : R.val = 128 * (4 * (t.val % 8) - 1) + r.val) (K : Fin 6144) (hK : K.val = 4608 + k.val) :
    iblk m c 2 t (ix3 (0 : Fin 1) r k) = m ((c.tc : Thread nD τ).loc main_arg0) (ix3 b R K) := by
  rw [← V_main_arg0 m c]
  show V m c main_arg0 (((cfg0.win 2).blk t).view.emb (ix3 (0 : Fin 1) r k)) = _
  obtain ⟨e0, e1, e2⟩ := (by decide +kernel : ∀ t : Fin grid0.N, win0_2.index t (0 : Fin 3) = t.val / 8
    ∧ win0_2.index t (1 : Fin 3) = 4 * (t.val % 8) - 1 ∧ win0_2.index t (2 : Fin 3) = 36) t
  refine congrArg _ (funext fun a => Fin.ext ?_)
  match a with
  | ⟨0, _⟩ => show win0_2.index t (0 : Fin 3) * 1 + 1 * 0 = b.val; omega
  | ⟨1, _⟩ => show win0_2.index t (1 : Fin 3) * 128 + 1 * r.val = R.val; omega
  | ⟨2, _⟩ => show win0_2.index t (2 : Fin 3) * 128 + 1 * k.val = K.val; omega

/-- The block's own keys. -/
theorem blk3 (c : Dev nD) (t : Fin cfg0.N) (r : Fin 512) (k : Fin 128) (b : Fin 4) (hb : b.val = t.val / 8)
    (R : Fin 4096) (hR : R.val = 512 * (t.val % 8) + r.val) (K : Fin 6144) (hK : K.val = 4608 + k.val) :
    iblk m c 3 t (ix3 (0 : Fin 1) r k) = m ((c.tc : Thread nD τ).loc main_arg0) (ix3 b R K) := by
  rw [← V_main_arg0 m c]
  show V m c main_arg0 (((cfg0.win 3).blk t).view.emb (ix3 (0 : Fin 1) r k)) = _
  obtain ⟨e0, e1, e2⟩ := (by decide +kernel : ∀ t : Fin grid0.N, win0_3.index t (0 : Fin 3) = t.val / 8
    ∧ win0_3.index t (1 : Fin 3) = t.val % 8 ∧ win0_3.index t (2 : Fin 3) = 36) t
  refine congrArg _ (funext fun a => Fin.ext ?_)
  match a with
  | ⟨0, _⟩ => show win0_3.index t (0 : Fin 3) * 1 + 1 * 0 = b.val; omega
  | ⟨1, _⟩ => show win0_3.index t (1 : Fin 3) * 512 + 1 * r.val = R.val; omega
  | ⟨2, _⟩ => show win0_3.index t (2 : Fin 3) * 128 + 1 * k.val = K.val; omega

/-- The values before the block's own, and its own. -/
theorem blk4 (c : Dev nD) (t : Fin cfg0.N) (r k : Fin 128) (b : Fin 4) (hb : b.val = t.val / 8)
    (R : Fin 4096) (hR : R.val = 128 * (4 * (t.val % 8) - 1) + r.val) (K : Fin 6144) (hK : K.val = 4736 + k.val) :
    iblk m c 4 t (ix3 (0 : Fin 1) r k) = m ((c.tc : Thread nD τ).loc main_arg0) (ix3 b R K) := by
  rw [← V_main_arg0 m c]
  show V m c main_arg0 (((cfg0.win 4).blk t).view.emb (ix3 (0 : Fin 1) r k)) = _
  obtain ⟨e0, e1, e2⟩ := (by decide +kernel : ∀ t : Fin grid0.N, win0_4.index t (0 : Fin 3) = t.val / 8
    ∧ win0_4.index t (1 : Fin 3) = 4 * (t.val % 8) - 1 ∧ win0_4.index t (2 : Fin 3) = 37) t
  refine congrArg _ (funext fun a => Fin.ext ?_)
  match a with
  | ⟨0, _⟩ => show win0_4.index t (0 : Fin 3) * 1 + 1 * 0 = b.val; omega
  | ⟨1, _⟩ => show win0_4.index t (1 : Fin 3) * 128 + 1 * r.val = R.val; omega
  | ⟨2, _⟩ => show win0_4.index t (2 : Fin 3) * 128 + 1 * k.val = K.val; omega

theorem blk5 (c : Dev nD) (t : Fin cfg0.N) (r : Fin 512) (k : Fin 128) (b : Fin 4) (hb : b.val = t.val / 8)
    (R : Fin 4096) (hR : R.val = 512 * (t.val % 8) + r.val) (K : Fin 6144) (hK : K.val = 4736 + k.val) :
    iblk m c 5 t (ix3 (0 : Fin 1) r k) = m ((c.tc : Thread nD τ).loc main_arg0) (ix3 b R K) := by
  rw [← V_main_arg0 m c]
  show V m c main_arg0 (((cfg0.win 5).blk t).view.emb (ix3 (0 : Fin 1) r k)) = _
  obtain ⟨e0, e1, e2⟩ := (by decide +kernel : ∀ t : Fin grid0.N, win0_5.index t (0 : Fin 3) = t.val / 8
    ∧ win0_5.index t (1 : Fin 3) = t.val % 8 ∧ win0_5.index t (2 : Fin 3) = 37) t
  refine congrArg _ (funext fun a => Fin.ext ?_)
  match a with
  | ⟨0, _⟩ => show win0_5.index t (0 : Fin 3) * 1 + 1 * 0 = b.val; omega
  | ⟨1, _⟩ => show win0_5.index t (1 : Fin 3) * 512 + 1 * r.val = R.val; omega
  | ⟨2, _⟩ => show win0_5.index t (2 : Fin 3) * 128 + 1 * k.val = K.val; omega

/-- The gate. -/
theorem blk6 (c : Dev nD) (t : Fin cfg0.N) (r k : Fin 512) (b : Fin 4) (hb : b.val = t.val / 8)
    (R : Fin 4096) (hR : R.val = 512 * (t.val % 8) + r.val) (K : Fin 6144) (hK : K.val = 3584 + k.val) :
    iblk m c 6 t (ix3 (0 : Fin 1) r k) = m ((c.tc : Thread nD τ).loc main_arg0) (ix3 b R K) := by
  rw [← V_main_arg0 m c]
  show V m c main_arg0 (((cfg0.win 6).blk t).view.emb (ix3 (0 : Fin 1) r k)) = _
  obtain ⟨e0, e1, e2⟩ := (by decide +kernel : ∀ t : Fin grid0.N, win0_6.index t (0 : Fin 3) = t.val / 8
    ∧ win0_6.index t (1 : Fin 3) = t.val % 8 ∧ win0_6.index t (2 : Fin 3) = 7) t
  refine congrArg _ (funext fun a => Fin.ext ?_)
  match a with
  | ⟨0, _⟩ => show win0_6.index t (0 : Fin 3) * 1 + 1 * 0 = b.val; omega
  | ⟨1, _⟩ => show win0_6.index t (1 : Fin 3) * 512 + 1 * r.val = R.val; omega
  | ⟨2, _⟩ => show win0_6.index t (2 : Fin 3) * 512 + 1 * k.val = K.val; omega

/-! ## The result array -/

/-- Row `128 (r / 128) + j` of a point's keys (or values) is the array's row `keyRow`. -/
theorem rows_eq (A : Fin 4096 → EReal) (n : Nat) (x : Vec Ideal S1x128x128 .f32) (y : Vec Ideal S1x512x128 .f32) (l : Fin 128)
    (hn : n < 8)
    (hx : ∀ (r : Fin 128) (R : Fin 4096), R.val = 128 * (4 * n - 1) + r.val → x (ix3 (0 : Fin 1) r l) = A R)
    (hy : ∀ (r : Fin 512) (R : Fin 4096), R.val = 512 * n + r.val → y (ix3 (0 : Fin 1) r l) = A R)
    (r : Fin 512) (R : Fin 4096) (hR : R.val = 512 * n + r.val) (j : Fin 256) :
    rows x y (⟨128 * (r.val / 128) + j.val, by omega⟩ : Fin 640) l = A (keyRow R j) := by
  unfold rows
  by_cases h : 128 * (r.val / 128) + j.val < 128
  · rw [dif_pos h]
    refine hx _ _ ?_
    show (if 128 ≤ R.val / 128 * 128 + j.val then R.val / 128 * 128 + j.val - 128 else j.val) = 128 * (4 * n - 1) + (128 * (r.val / 128) + j.val)
    split_ifs <;> omega
  · rw [dif_neg h]
    refine hy _ _ ?_
    show (if 128 ≤ R.val / 128 * 128 + j.val then R.val / 128 * 128 + j.val - 128 else j.val) = 512 * n + (128 * (r.val / 128) + j.val - 128)
    split_ifs <;> omega

/-- The result array: `value` of the arguments at each entry. -/
def G (c : Dev nD) : Vec Ideal S4x4096x512 .bf16 := fun i =>
  value (m ((c.tc : Thread nD τ).loc main_arg0)) (m ((c.tc : Thread nD τ).loc main_arg1)) (i 0) (i 1) (i 2)

/-- An entry of what a point writes is the result's. -/
theorem entry (c : Dev nD) (t : Fin cfg0.N) (n : Nat) (hn : n = t.val % 8) (r col : Fin 512) (b : Fin 4) (hb : b.val = t.val / 8)
    (R : Fin 4096) (hR : R.val = 512 * (t.val % 8) + r.val) :
    SwaKernel.G n (iblk m c 0 t) (iblk m c 1 t) (iblk m c 2 t) (iblk m c 3 t) (iblk m c 4 t) (iblk m c 5 t) (iblk m c 6 t) r col
      = G m c (ix3 b R col) := by
  have hn8 : n < 8 := by omega
  have hk (j : Fin 256) (l : Fin 128) := rows_eq (fun R => m ((c.tc : Thread nD τ).loc main_arg0) (ix3 b R (⟨4608 + l.val, by omega⟩ : Fin 6144)))
    n (iblk m c 2 t) (iblk m c 3 t) l hn8 (fun r R h => blk2 m c t r l b hb R (by rw [h, hn]) _ rfl) (fun r R h => blk3 m c t r l b hb R (by rw [h, hn]) _ rfl)
    r R (by rw [hR, hn]) j
  have hv (j : Fin 256) (l : Fin 128) := rows_eq (fun R => m ((c.tc : Thread nD τ).loc main_arg0) (ix3 b R (⟨4736 + l.val, by omega⟩ : Fin 6144)))
    n (iblk m c 4 t) (iblk m c 5 t) l hn8 (fun r R h => blk4 m c t r l b hb R (by rw [h, hn]) _ rfl) (fun r R h => blk5 m c t r l b hb R (by rw [h, hn]) _ rfl)
    r R (by rw [hR, hn]) j
  have hq (k : Fin 512) := blk1 m c t r k b hb R hR (⟨4096 + k.val, by omega⟩ : Fin 6144) rfl
  have hg := blk6 m c t r col b hb R hR (⟨3584 + col.val, by omega⟩ : Fin 6144) rfl
  have hz : iblk m c 0 t (ix1 (⟨2 * (col.val / 128) + col.val / 64 % 2, by omega⟩ : Fin 8))
      = m ((c.tc : Thread nD τ).loc main_arg1) (ix1 (⟨col.val / 64 % 2 * 4 + col.val / 128, by omega⟩ : Fin 8)) := by
    rw [blk0 m c t]
    refine congrArg (fun a : Fin 8 => m ((c.tc : Thread nD τ).loc main_arg1) (ix1 a)) (Fin.ext ?_)
    show (2 * (col.val / 128) + col.val / 64 % 2) % 2 * 4 + (2 * (col.val / 128) + col.val / 64 % 2) / 2 = col.val / 64 % 2 * 4 + col.val / 128
    omega
  unfold SwaKernel.G
  rw [hz, hg]
  simp only [hk, hv, hq]
  obtain rfl : n = R.val / 512 := by omega
  have hr : r.val = R.val % 512 := by omega
  generalize r.val = q at hr ⊢
  subst hr
  rfl

/-- What a point writes back is its block of `G`. -/
theorem flushed_eq (c : Dev nD) (t : Fin cfg0.N) :
    (dats m 0 c).flushed 7 t = ((cfg0.win 7).blk t).view.read (Elt Ideal) (G m c) := by
  have ht : t.val < 32 := lt_of_lt_of_eq t.isLt Gen.N_0
  obtain ⟨e0, e1, e2⟩ := (by decide +kernel : ∀ t : Fin grid0.N, win0_7.index t (0 : Fin 3) = t.val / 8
    ∧ win0_7.index t (1 : Fin 3) = t.val % 8 ∧ win0_7.index t (2 : Fin 3) = 0) t
  have en := (by decide +kernel : ∀ t : Fin grid0.N, (grid0.coords t 1).val = t.val % 8) t
  have hemb (r k : Fin 512) : ((cfg0.win 7).blk t).view.emb (ix3 (0 : Fin 1) r k)
      = ix3 (⟨t.val / 8, by omega⟩ : Fin 4) (⟨512 * (t.val % 8) + r.val, by omega⟩ : Fin 4096) k := by
    refine funext fun a => Fin.ext ?_
    match a with
    | ⟨0, _⟩ => show win0_7.index t (0 : Fin 3) * 1 + 1 * 0 = t.val / 8; omega
    | ⟨1, _⟩ => show win0_7.index t (1 : Fin 3) * 512 + 1 * r.val = 512 * (t.val % 8) + r.val; omega
    | ⟨2, _⟩ => show win0_7.index t (2 : Fin 3) * 512 + 1 * k.val = k.val; omega
  rw [flushed7_A m c t, out_A]
  funext j
  obtain ⟨r, k, rfl⟩ : ∃ r k : Fin 512, j = ix3 (0 : Fin 1) r k :=
    ⟨j 1, j 2, (eq_ix3 j).trans (congrArg (fun a : Fin 1 => ix3 a (j 1) (j 2)) (Subsingleton.elim _ _))⟩
  show _ = G m c (((cfg0.win 7).blk t).view.emb (ix3 (0 : Fin 1) r k))
  rw [hemb]
  exact entry m c t _ en r k _ rfl _ rfl

/-- Every entry of the result is in the block of the point of its sequence and rows. -/
theorem covered (i : S4x4096x512.Idx) :
    ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 512 := (i 2).isLt
  obtain ⟨t, ht⟩ : ∃ t : Fin cfg0.N, t.val = 8 * (i 0).val + (i 1).val / 512 :=
    ⟨⟨8 * (i 0).val + (i 1).val / 512, by show _ < grid0.N; rw [Gen.N_0]; omega⟩, rfl⟩
  refine ⟨t, flush0_7 t, ?_⟩
  obtain ⟨e0, e1, e2⟩ := (by decide +kernel : ∀ t : Fin grid0.N, win0_7.index t (0 : Fin 3) = t.val / 8
    ∧ win0_7.index t (1 : Fin 3) = t.val % 8 ∧ win0_7.index t (2 : Fin 3) = 0) t
  show i ∈ ((View.whole main_v3).slice (win0_7.rect t)).set
  rw [View.set_slice_whole, Rect.mem_set_unit]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 512 ≤ (i 1).val ∧ (i 1).val < win0_7.index t (1 : Fin 3) * 512 + 512
    omega
  | ⟨2, _⟩ =>
    show win0_7.index t (2 : Fin 3) * 512 ≤ (i 2).val ∧ (i 2).val < win0_7.index t (2 : Fin 3) * 512 + 512
    omega

/-- The result array after the run. -/
theorem final (c : Dev nD) : (dats m 0 c).arrAt 7 cfg0.N = G m c :=
  (dats m 0 c).arrAt_eq_of_cover 7 (G m c) (fun t _ => flushed_eq m c t) covered

end Cert.Proof.SwaValue

end
-- ==== Proof.SwaRef.lean ====
/- The plain program of the sliding-window attention, read at one entry. -/
module

public import proofs.«01_k».proof.Proof.Gen.SwaRefIdeal.Run
public import proofs.«01_k».proof.Proof.SwaMath
public import Idealize.ShloMosaic.Lib.Tactic.CleanTypes

@[expose] public section

set_option maxRecDepth 16384

noncomputable section

namespace Cert.Proof.SwaRef

open Cert.SwaRefIdeal Cert.SwaRefIdeal.Gen Cert.SwaRefIdeal.Value Idealize.ShloMosaic Idealize.ShloMosaic.TcCoe Idealize.SL.Sem SwaMath

/-- The queries: blocks of 128 positions, two groups of four heads, 64 channels. -/
def queries (x : FVec Ideal S4x4096x6144 .f32) : FVec Ideal S4x32x128x2x4x64 .f32 :=
  shapeCast _ (shapeCast _ (transpose S4x4096x2x4x2x32 [0, 1, 4, 2, 3, 5] (shapeCast _ (extractStridedSlice S4x4096x512 ![0, 0, 4096] x slices_S4x4096x6144_S4x4096x512_0_0_4096) shapeCasts_S4x4096x512_S4x4096x4x2x2x32) transposes_S4x4096x4x2x2x32_S4x4096x2x4x2x32_0_1_4_2_3_5) shapeCasts_S4x4096x2x4x2x32_S4x4096x8x64) shapeCasts_S4x4096x8x64_S4x32x128x2x4x64

/-- The keys: blocks of 128 positions, two heads, 64 channels. -/
def keys (x : FVec Ideal S4x4096x6144 .f32) : FVec Ideal S4x32x128x2x64 .f32 :=
  shapeCast _ (shapeCast _ (transpose S4x4096x2x2x32 [0, 1, 3, 2, 4] (shapeCast _ (extractStridedSlice S4x4096x128 ![0, 0, 4608] x slices_S4x4096x6144_S4x4096x128_0_0_4608) shapeCasts_S4x4096x128_S4x4096x2x2x32) transposes_S4x4096x2x2x32_S4x4096x2x2x32_0_1_3_2_4) shapeCasts_S4x4096x2x2x32_S4x4096x2x64) shapeCasts_S4x4096x2x64_S4x32x128x2x64

/-- The values, likewise. -/
def values (x : FVec Ideal S4x4096x6144 .f32) : FVec Ideal S4x32x128x2x64 .f32 :=
  shapeCast _ (shapeCast _ (extractStridedSlice S4x4096x128 ![0, 0, 4736] x slices_S4x4096x6144_S4x4096x128_0_0_4736) shapeCasts_S4x4096x128_S4x4096x2x64) shapeCasts_S4x4096x2x64_S4x32x128x2x64

/-- Each block after the one before it, the first after zeros. -/
def windows (y : FVec Ideal S4x32x128x2x64 .f32) : FVec Ideal S4x32x256x2x64 .f32 :=
  concatenate S4x32x256x2x64 2 [⟨S4x32x128x2x64, (extractStridedSlice S4x32x128x2x64 ![0, 0, 0, 0, 0] (pad S4x33x128x2x64 ![0, 1, 0, 0, 0] ![0, 0, 0, 0, 0] ![0, 0, 0, 0, 0] y (sitofp .f32 (constantI S_ 32 0#32)) pads_S4x32x128x2x64_S4x33x128x2x64_000_100_000_000_000 h_S_) slices_S4x33x128x2x64_S4x32x128x2x64_0_0_0_0_0)⟩, ⟨S4x32x128x2x64, y⟩] concatenates_S4x32x128x2x64_S4x32x128x2x64_S4x32x256x2x64_d2

/-- Where the blocks start. -/
def starts : IVec S32x1x1 32 :=
  muli (broadcastInDim S32x1x1 ![0] bcast_S32_S32x1x1_0 (iotaInDim S32 32 0)) (broadcastInDim S32x1x1 ![] bcast_S_S32x1x1 (constantI S_ 32 128#32))

/-- The queries' positions. -/
def queryAt : IVec S32x128x1 32 :=
  addi (broadcastInDim S32x128x1 ![0, 1, 2] bcast_S32x1x1_S32x128x1_0_1_2 starts) (broadcastInDim S32x128x1 ![0, 1, 2] bcast_S1x128x1_S32x128x1_0_1_2 (broadcastInDim S1x128x1 ![1] bcast_S128_S1x128x1_1 (iotaInDim S128 32 0)))

/-- The keys' positions; those before the first block are negative. -/
def keyAt : IVec S32x1x256 32 :=
  addi (broadcastInDim S32x1x256 ![0, 1, 2] bcast_S32x1x1_S32x1x256_0_1_2 (subi starts (broadcastInDim S32x1x1 ![] bcast_S_S32x1x1 (constantI S_ 32 128#32)))) (broadcastInDim S32x1x256 ![0, 1, 2] bcast_S1x1x256_S32x1x256_0_1_2 (broadcastInDim S1x1x256 ![2] bcast_S256_S1x1x256_2 (iotaInDim S256 32 0)))

/-- Which keys a query attends to: the 128 up to its own position. -/
def band : IVec S32x128x256 1 :=
  andi (andi (cmpi .sge (subi (broadcastInDim S32x128x256 ![0, 1, 2] bcast_S32x128x1_S32x128x256_0_1_2 queryAt) (broadcastInDim S32x128x256 ![0, 1, 2] bcast_S32x1x256_S32x128x256_0_1_2 keyAt)) (broadcastInDim S32x128x256 ![] bcast_S_S32x128x256 (constantI S_ 32 0#32))) (cmpi .slt (subi (broadcastInDim S32x128x256 ![0, 1, 2] bcast_S32x128x1_S32x128x256_0_1_2 queryAt) (broadcastInDim S32x128x256 ![0, 1, 2] bcast_S32x1x256_S32x128x256_0_1_2 keyAt)) (broadcastInDim S32x128x256 ![] bcast_S_S32x128x256 (constantI S_ 32 128#32)))) (broadcastInDim S32x128x256 ![0, 1, 2] bcast_S32x1x256_S32x128x256_0_1_2 (cmpi .sge keyAt (broadcastInDim S32x1x256 ![] bcast_S_S32x1x256 (constantI S_ 32 0#32))))

/-- The scores, minus infinity outside the band. -/
def scores (k : FVec Ideal S4x32x256x2x64 .f32) (q : FVec Ideal S4x32x128x2x4x64 .f32) : FVec Ideal S4x32x2x4x128x256 .f32 :=
  select (broadcastInDim S4x32x2x4x128x256 ![0, 1, 2, 3, 4, 5] bcast_S1x32x1x1x128x256_S4x32x2x4x128x256_0_1_2_3_4_5 (broadcastInDim S1x32x1x1x128x256 ![1, 4, 5] bcast_S32x128x256_S1x32x1x1x128x256_1_4_5 band)) (mulf (transpose S4x32x2x4x128x256 [0, 1, 2, 5, 4, 3] (Host.dotGeneral dot_S4x32x256x2x64_S4x32x128x2x4x64_S4x32x2x256x128x4_4_5_2_24_013_013 none k q) transposes_S4x32x2x256x128x4_S4x32x2x4x128x256_0_1_2_5_4_3) (broadcastInDim S4x32x2x4x128x256 ![] bcast_S_S4x32x2x4x128x256 (constant S_ .f32 0x3E000000#32))) (broadcastInDim S4x32x2x4x128x256 ![] bcast_S_S4x32x2x4x128x256 (id (constant S_ .f32 0xFF800000#32)))

/-- The scores and, after them, each head's sink. -/
def logits (s : FVec Ideal S4x32x2x4x128x256 .f32) (z : FVec Ideal S8 .f32) : FVec Ideal S4x32x2x4x128x257 .f32 :=
  concatenate S4x32x2x4x128x257 5 [⟨S4x32x2x4x128x256, s⟩, ⟨S4x32x2x4x128x1, (broadcastInDim S4x32x2x4x128x1 ![0, 1, 2, 3, 4, 5] bcast_S1x1x2x4x1x1_S4x32x2x4x128x1_0_1_2_3_4_5 (shapeCast _ z shapeCasts_S8_S1x1x2x4x1x1))⟩] concatenates_S4x32x2x4x128x256_S4x32x2x4x128x1_S4x32x2x4x128x257_d5

/-- The largest logit. -/
def peak (l : FVec Ideal S4x32x2x4x128x257 .f32) : FVec Ideal S4x32x2x4x128 .f32 :=
  maximumf (broadcastInDim S4x32x2x4x128 ![] bcast_S_S4x32x2x4x128 (constant S_ .f32 0xFF800000#32)) (Host.reduce FloatOps.maximumf l (constant S_ .f32 0xFF800000#32) reducesTo_S4x32x2x4x128x257_S4x32x2x4x128_d5 h_S_)

/-- The exponentials, the largest subtracted. -/
def weights (l : FVec Ideal S4x32x2x4x128x257 .f32) (p : FVec Ideal S4x32x2x4x128 .f32) : FVec Ideal S4x32x2x4x128x257 .f32 :=
  Host.exp (subf l (broadcastInDim S4x32x2x4x128x257 ![0, 1, 2, 3, 4, 5] bcast_S4x32x2x4x128x1_S4x32x2x4x128x257_0_1_2_3_4_5 (broadcastInDim S4x32x2x4x128x1 ![0, 1, 2, 3, 4] bcast_S4x32x2x4x128_S4x32x2x4x128x1_0_1_2_3_4 p)))

/-- Their sum. -/
def total (w : FVec Ideal S4x32x2x4x128x257 .f32) : FVec Ideal S4x32x2x4x128 .f32 :=
  Host.reduceAdd w (constant S_ .f32 0x00000000#32) reducesTo_S4x32x2x4x128x257_S4x32x2x4x128_d5 h_S_

/-- The weights over their sum, the sink's dropped. -/
def probs (w : FVec Ideal S4x32x2x4x128x257 .f32) (s : FVec Ideal S4x32x2x4x128 .f32) : FVec Ideal S4x32x2x4x128x256 .f32 :=
  extractStridedSlice S4x32x2x4x128x256 ![0, 0, 0, 0, 0, 0] (Host.divf w (broadcastInDim S4x32x2x4x128x257 ![0, 1, 2, 3, 4, 5] bcast_S4x32x2x4x128x1_S4x32x2x4x128x257_0_1_2_3_4_5 (broadcastInDim S4x32x2x4x128x1 ![0, 1, 2, 3, 4] bcast_S4x32x2x4x128_S4x32x2x4x128x1_0_1_2_3_4 s))) slices_S4x32x2x4x128x257_S4x32x2x4x128x256_0_0_0_0_0_0

/-- The values mixed. -/
def mix (v : FVec Ideal S4x32x256x2x64 .f32) (p : FVec Ideal S4x32x2x4x128x256 .f32) : FVec Ideal S4x32x2x64x4x128 .f32 :=
  Host.dotGeneral dot_S4x32x256x2x64_S4x32x2x4x128x256_S4x32x2x64x4x128_2_5_4_34_013_012 none v p

/-- The heads back in their columns. -/
def columns (y : FVec Ideal S4x32x2x64x4x128 .f32) : FVec Ideal S4x4096x512 .f32 :=
  shapeCast _ (transpose S4x4096x4x2x64 [0, 1, 3, 2, 4] (shapeCast _ (shapeCast _ (transpose S4x32x128x2x4x64 [0, 1, 5, 2, 4, 3] y transposes_S4x32x2x64x4x128_S4x32x128x2x4x64_0_1_5_2_4_3) shapeCasts_S4x32x128x2x4x64_S4x4096x8x64) shapeCasts_S4x4096x8x64_S4x4096x2x4x64) transposes_S4x4096x2x4x64_S4x4096x4x2x64_0_1_3_2_4) shapeCasts_S4x4096x4x2x64_S4x4096x512

/-- The result: the heads, gated. -/
def res (x : FVec Ideal S4x4096x6144 .f32) (y : FVec Ideal S4x4096x512 .f32) : FVec Ideal S4x4096x512 .bf16 :=
  truncf .bf16 (mulf y (mulf (extractStridedSlice S4x4096x512 ![0, 0, 3584] x slices_S4x4096x6144_S4x4096x512_0_0_3584) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (extractStridedSlice S4x4096x512 ![0, 0, 3584] x slices_S4x4096x6144_S4x4096x512_0_0_3584))))))) bitsLt_bf16_f32

/-- The softmax of logits and the values it mixes. -/
def attend (v : FVec Ideal S4x32x256x2x64 .f32) (l : FVec Ideal S4x32x2x4x128x257 .f32) : FVec Ideal S4x32x2x64x4x128 .f32 :=
  mix v (probs (weights l (peak l)) (total (weights l (peak l))))

/-- The program's result. -/
theorem res_eq (m : (ℓ : Loc nD τ sig) → Buf (Elt Ideal) ℓ) (c : Dev nD) :
    res_main_v81 m c = res (m ((c.tc : Thread nD τ).loc main_arg0)) (columns (attend (windows (values (m ((c.tc : Thread nD τ).loc main_arg0))))
      (logits (scores (windows (keys (m ((c.tc : Thread nD τ).loc main_arg0)))) (queries (m ((c.tc : Thread nD τ).loc main_arg0))))
        (m ((c.tc : Thread nD τ).loc main_arg1))))) := by
  unfold res_main_v81
  rfl

end Cert.Proof.SwaRef

end
-- ==== Proof.SwaRead.lean ====
/- Each part of the plain program of the sliding-window attention read at one entry, and its whole result. -/
module

public import proofs.«01_k».proof.Proof.SwaRef
public import Idealize.ShloMosaic.Lib.Tactic.CleanTypes

@[expose] public section

set_option maxRecDepth 16384

noncomputable section

namespace Cert.Proof.SwaRead

open Cert.SwaRefIdeal Cert.SwaRefIdeal.Gen Cert.SwaRefIdeal.Value Idealize.ShloMosaic Idealize.ShloMosaic.TcCoe Idealize.SL.Sem SwaMath SwaRef

variable (b : Fin 4) (n : Fin 32) (r : Fin 128) (g : Fin 2) (h : Fin 4) (d : Fin 64)

/-- A query's channel. -/
theorem queries_apply (x : FVec Ideal S4x4096x6144 .f32) : queries x (ix6 b n r g h d)
    = x (ix3 b (⟨n.val * 128 + r.val, by omega⟩ : Fin 4096) (⟨4096 + (h.val * 128 + d.val / 32 * 64 + g.val * 32 + d.val % 32), by omega⟩ : Fin 6144)) := by
  pointwise [queries]

/-- A key's channel. -/
theorem keys_apply (x : FVec Ideal S4x4096x6144 .f32) : keys x (ix5 b n r g d)
    = x (ix3 b (⟨n.val * 128 + r.val, by omega⟩ : Fin 4096) (⟨4608 + (d.val / 32 * 64 + g.val * 32 + d.val % 32), by omega⟩ : Fin 6144)) := by
  pointwise [keys]

/-- A value's channel. -/
theorem values_apply (x : FVec Ideal S4x4096x6144 .f32) : values x (ix5 b n r g d)
    = x (ix3 b (⟨n.val * 128 + r.val, by omega⟩ : Fin 4096) (⟨4736 + (g.val * 64 + d.val), by omega⟩ : Fin 6144)) := by
  pointwise [values]

/-- A window's row: of the block before, or of the block itself. -/
theorem windows_apply (y : FVec Ideal S4x32x128x2x64 .f32) (j : Fin 256) : windows y (ix5 b n j g d)
    = if h : j.val < 128 then
        if h_1 : (1 ≤ n.val ∧ n.val - 1 < 32) ∧ j.val < 128 then
          y (ix5 b (⟨n.val - 1, h_1.1.2⟩ : Fin 32) (⟨j.val, h_1.2⟩ : Fin 128) g d) else (FloatOps.sitofp (F := Ideal) .f32 0#32 : EReal)
      else y (ix5 b n (⟨j.val - 128, by omega⟩ : Fin 128) g d) := by
  pointwise [windows]

/-- Which keys of its window a query attends to. -/
def visible (n r : Nat) (j : Fin 256) : Prop := (r < j.val ∧ j.val ≤ r + 128) ∧ (0 < n ∨ 128 ≤ j.val)

instance (n r : Nat) : DecidablePred (visible n r) := fun j => by unfold visible; infer_instance

/-- The distance between a query and a key does not depend on the block. -/
theorem distance (n r j : BitVec 32) : IntOp.subi (IntOp.addi (IntOp.muli n 128#32) r) (IntOp.addi (IntOp.subi (IntOp.muli n 128#32) 128#32) j)
    = IntOp.subi (IntOp.addi r 128#32) j := by
  show n * 128#32 + r - (n * 128#32 - 128#32 + j) = r + 128#32 - j
  generalize n * 128#32 = a
  bv_omega

theorem within : ∀ (r : Fin 128) (j : Fin 256), IntOp.andi
      (IntOp.cmpi .sge (IntOp.subi (IntOp.addi (BitVec.ofNat 32 r.val) 128#32) (BitVec.ofNat 32 j.val)) 0#32)
      (IntOp.cmpi .slt (IntOp.subi (IntOp.addi (BitVec.ofNat 32 r.val) 128#32) (BitVec.ofNat 32 j.val)) 128#32)
    = if r.val < j.val ∧ j.val ≤ r.val + 128 then 1#1 else 0#1 := by decide +kernel

theorem inside : ∀ (n : Fin 32) (j : Fin 256),
    IntOp.cmpi .sge (IntOp.addi (IntOp.subi (IntOp.muli (BitVec.ofNat 32 n.val) 128#32) 128#32) (BitVec.ofNat 32 j.val)) 0#32
    = if 0 < n.val ∨ 128 ≤ j.val then 1#1 else 0#1 := by decide +kernel

theorem band_apply (j : Fin 256) : band (ix3 n r j) = if visible n.val r.val j then 1#1 else 0#1 := by
  pointwise [band, queryAt, keyAt, starts]
  rw [distance, within, inside]
  unfold visible
  by_cases h1 : r.val < j.val ∧ j.val ≤ r.val + 128 <;> by_cases h2 : 0 < n.val ∨ 128 ≤ j.val <;> simp only [h1, h2, and_self, and_true, and_false, if_true, if_false] <;> rfl

/-- A score. -/
theorem scores_apply (k : FVec Ideal S4x32x256x2x64 .f32) (q : FVec Ideal S4x32x128x2x4x64 .f32) (j : Fin 256) : scores k q (ix6 b n g h r j)
    = banded (visible n.val r.val) (fun j => dots (fun d => q (ix6 b n r g h d)) (fun d => k (ix5 b n j g d))) j := by
  pointwise [SwaRef.scores]
  rw [band_apply]
  unfold banded dots
  by_cases hp : visible n.val r.val j
  · rw [if_pos hp, if_pos hp]; rfl
  · rw [if_neg hp, if_neg hp]; exact neg_inf

/-- The logits are the scores with the sink after them. -/
theorem logits_apply (s : FVec Ideal S4x32x2x4x128x256 .f32) (z : FVec Ideal S8 .f32) (e : Fin 257) : logits s z (ix6 b n g h r e)
    = withSink (fun j => s (ix6 b n g h r j)) (z (ix1 (⟨g.val * 4 + h.val, by omega⟩ : Fin 8))) e := by
  pointwise [logits]
  rfl

theorem reduces : S4x32x2x4x128x257.Reduces [5] S4x32x2x4x128 := by decide

theorem lift_eq (e : Fin 257) : reduces.lift (ix5 b n g h r) e = ix6 b n g h r e := by
  refine funext fun a => Fin.ext ?_
  match a with
  | ⟨0, _⟩ => rfl
  | ⟨1, _⟩ => rfl
  | ⟨2, _⟩ => rfl
  | ⟨3, _⟩ => rfl
  | ⟨4, _⟩ => rfl
  | ⟨5, _⟩ => rfl

theorem floor_apply (y : FVec Ideal S4x32x2x4x128 .f32) (i : S4x32x2x4x128.Idx) :
    maximumf (broadcastInDim S4x32x2x4x128 ![] bcast_S_S4x32x2x4x128 (constant S_ .f32 0xFF800000#32)) y i = max (Ideal.ofBits .f32 0xFF800000#32) (y i) := rfl

theorem start_apply (i : S_.Idx) : constant (F := Ideal) S_ .f32 0xFF800000#32 i = Ideal.ofBits .f32 0xFF800000#32 := rfl

/-- The largest entry along the last axis. -/
theorem largest_apply (f : EReal → EReal → EReal) (hf : f = max) (l : FVec Ideal S4x32x2x4x128x257 .f32) (z : FVec Ideal S_ .f32) (z' : EReal) (hz : ∀ i, z i = z') :
    Host.reduce f l z reducesTo_S4x32x2x4x128x257_S4x32x2x4x128_d5 h_S_ (ix5 b n g h r)
      = Finset.univ.fold max z' fun e : Fin 257 => l (ix6 b n g h r e) := by
  subst hf
  rw [Host.reduce_eq_fold_single (max : EReal → EReal → EReal) l z reducesTo_S4x32x2x4x128x257_S4x32x2x4x128_d5 reduces h_S_ (ix5 b n g h r), hz]
  exact congrArg (Finset.fold max z' · Finset.univ) (funext fun e => congrArg l (lift_eq b n r g h e))

theorem peak_apply (l : FVec Ideal S4x32x2x4x128x257 .f32) : peak l (ix5 b n g h r)
    = max (Ideal.ofBits .f32 0xFF800000#32) (Finset.univ.fold max (Ideal.ofBits .f32 0xFF800000#32) fun e : Fin 257 => l (ix6 b n g h r e)) := by
  unfold peak
  rw [floor_apply, largest_apply b n r g h _ Ideal.maximumf_eq_max l _ _ start_apply]

theorem total_apply (w : FVec Ideal S4x32x2x4x128x257 .f32) : total w (ix5 b n g h r) = ∑ e : Fin 257, w (ix6 b n g h r e) := by
  refine (Ideal.hostReduceAdd_single reducesTo_S4x32x2x4x128x257_S4x32x2x4x128_d5 reduces w (Ideal.ofBits .f32 0x00000000#32) (ix5 b n g h r)).trans ?_
  rw [show Ideal.ofBits .f32 0x00000000#32 = (0 : EReal) by simp [Ideal.ofBits, Ideal.ieee], zero_add]
  exact Finset.sum_congr rfl fun e _ => congrArg w (lift_eq b n r g h e)

theorem weights_apply (l : FVec Ideal S4x32x2x4x128x257 .f32) (p : FVec Ideal S4x32x2x4x128 .f32) (e : Fin 257) :
    weights l p (ix6 b n g h r e) = Ideal.exp (l (ix6 b n g h r e) - p (ix5 b n g h r)) := by
  pointwise [weights]

theorem probs_apply (w : FVec Ideal S4x32x2x4x128x257 .f32) (s : FVec Ideal S4x32x2x4x128 .f32) (j : Fin 256) :
    probs w s (ix6 b n g h r j) = Ideal.div (w (ix6 b n g h r (⟨j.val, by omega⟩ : Fin 257))) (s (ix5 b n g h r)) := by
  pointwise [probs]

theorem mix_apply (v : FVec Ideal S4x32x256x2x64 .f32) (p : FVec Ideal S4x32x2x4x128x256 .f32) :
    mix v p (ix6 b n g d h r) = ∑ j, v (ix5 b n j g d) * p (ix6 b n g h r j) := by
  pointwise [mix]

/-- The attention is `soften` of the scores, the values and the head's sink. -/
theorem attend_apply (v : FVec Ideal S4x32x256x2x64 .f32) (s : FVec Ideal S4x32x2x4x128x256 .f32) (z : FVec Ideal S8 .f32) :
    attend v (logits s z) (ix6 b n g d h r)
      = soften (fun j => s (ix6 b n g h r j)) (fun j => v (ix5 b n j g d)) (z (ix1 (⟨g.val * 4 + h.val, by omega⟩ : Fin 8))) := by
  unfold attend soften
  rw [mix_apply]
  have ht : peak (logits s z) (ix5 b n g h r) = top' (fun j => s (ix6 b n g h r j)) (z (ix1 (⟨g.val * 4 + h.val, by omega⟩ : Fin 8))) := by
    rw [peak_apply]
    simp only [logits_apply]
    rfl
  refine Finset.sum_congr rfl fun j _ => ?_
  rw [probs_apply, total_apply]
  simp only [weights_apply, logits_apply, ht]
  have hw : withSink (fun j => s (ix6 b n g h r j)) (z (ix1 (⟨g.val * 4 + h.val, by omega⟩ : Fin 8))) (⟨j.val, by omega⟩ : Fin 257) = s (ix6 b n g h r j) := dif_pos j.isLt
  rw [hw]

theorem columns_apply (y : FVec Ideal S4x32x2x64x4x128 .f32) (t : Fin 4096) (c : Fin 512) : columns y (ix3 b t c)
    = y (ix6 b (⟨t.val / 128, by omega⟩ : Fin 32) (⟨c.val / 64 % 2, by omega⟩ : Fin 2) (⟨c.val % 64, by omega⟩ : Fin 64) (⟨c.val / 128, by omega⟩ : Fin 4) (⟨t.val % 128, by omega⟩ : Fin 128)) := by
  pointwise [columns]

theorem res_apply (x : FVec Ideal S4x4096x6144 .f32) (y : FVec Ideal S4x4096x512 .f32) (t : Fin 4096) (c : Fin 512) : res x y (ix3 b t c)
    = y (ix3 b t c) * (x (ix3 b t (⟨3584 + c.val, by omega⟩ : Fin 6144)) * Ideal.div 1 (1 + Ideal.exp (-x (ix3 b t (⟨3584 + c.val, by omega⟩ : Fin 6144))))) := by
  pointwise [res]

/-- Column `c` of the result at row `t` of sequence `b`: head `c / 128` of group `c / 64 % 2`, its channel `c % 64`. -/
theorem ref_apply (m : (ℓ : Loc nD τ sig) → Buf (Elt Ideal) ℓ) (dev : Dev nD) (b : Fin 4) (t : Fin 4096) (c : Fin 512)
    (X : FVec Ideal S4x4096x6144 .f32) (hX : m ((dev.tc : Thread nD τ).loc main_arg0) = X)
    (Z : FVec Ideal S8 .f32) (hZ : m ((dev.tc : Thread nD τ).loc main_arg1) = Z)
    (n : Fin 32) (hn : n.val = t.val / 128) (r : Fin 128) (hr : r.val = t.val % 128) (g : Fin 2) (hg : g.val = c.val / 64 % 2)
    (h : Fin 4) (hh : h.val = c.val / 128) (d : Fin 64) (hd : d.val = c.val % 64) :
    res_main_v81 m dev (ix3 b t c)
      = soften (banded (visible n.val r.val) fun j => dots (fun d => queries X (ix6 b n r g h d)) (fun d => windows (keys X) (ix5 b n j g d)))
          (fun j => windows (values X) (ix5 b n j g d)) (Z (ix1 (⟨g.val * 4 + h.val, by omega⟩ : Fin 8)))
        * (X (ix3 b t (⟨3584 + c.val, by omega⟩ : Fin 6144)) * Ideal.div 1 (1 + Ideal.exp (-X (ix3 b t (⟨3584 + c.val, by omega⟩ : Fin 6144))))) := by
  have hn' : t.val / 128 < 32 := by omega
  have hr' : t.val % 128 < 128 := by omega
  have hg' : c.val / 64 % 2 < 2 := by omega
  have hh' : c.val / 128 < 4 := by omega
  have hd' : c.val % 64 < 64 := by omega
  obtain rfl : n = ⟨t.val / 128, hn'⟩ := Fin.ext hn
  obtain rfl : r = ⟨t.val % 128, hr'⟩ := Fin.ext hr
  obtain rfl : g = ⟨c.val / 64 % 2, hg'⟩ := Fin.ext hg
  obtain rfl : h = ⟨c.val / 128, hh'⟩ := Fin.ext hh
  obtain rfl : d = ⟨c.val % 64, hd'⟩ := Fin.ext hd
  rw [res_eq, hX, hZ, res_apply, columns_apply, attend_apply]
  simp only [scores_apply]

end Cert.Proof.SwaRead

end
-- ==== Proof.OutMath.lean ====
/- The mathematics of the layer's last stage, over extended reals: the S5 mixer's tail (skip, gelu, GLU, gate), the output
   projection and its norm. The two programs both compute `result`; what differs between them is settled here: a silu
   written as one quotient or as a product, a negation written as a difference from zero, and the order in which the
   attention heads of the third mixer are summed. -/
module

public import Idealize.ShloMosaic.Lib.Pointwise

@[expose] public section

noncomputable section

namespace Cert.Proof.OutMath

open Idealize.ShloMosaic

/-- Exponentials are not negative. -/
theorem exp_nonneg (x : EReal) : 0 ≤ Ideal.exp x := by
  induction x with
  | bot => exact le_refl _
  | top => exact le_top
  | coe r => exact EReal.coe_nonneg.mpr (Real.exp_pos r).le

/-- The denominator of a logistic is not zero. -/
theorem one_add_exp_ne (x : EReal) : 1 + Ideal.exp x ≠ 0 := by
  have h : (1 : EReal) ≤ 1 + Ideal.exp x := le_add_of_nonneg_right (exp_nonneg x)
  exact fun e => absurd (e ▸ h) (not_le.mpr zero_lt_one)

/-- A silu written as one quotient is the number times its logistic. -/
theorem silu_eq (x : EReal) :
    Ideal.div x (1 + Ideal.exp (0 - x)) = x * Ideal.div 1 (1 + Ideal.exp (-x)) := by
  rw [zero_sub, Ideal.div, Ideal.div, if_neg (one_add_exp_ne _), if_neg (one_add_exp_ne _), one_mul]

/-- The tanh form of gelu. -/
def gelu (y : EReal) : EReal :=
  y * (Ideal.ofBits FTy.f32 1056964608#32 * (1 + Ideal.tanh (Ideal.ofBits FTy.f32 1061962282#32 *
    (y + Ideal.ofBits FTy.f32 1027024659#32 * (y * y * y)))))

/-- The gated linear unit of the S5 mixer: each gelu times the logistic of a linear map of all of them. -/
def glu (e : Fin 512 → EReal) (w : Fin 512 → Fin 512 → EReal) (b : Fin 512 → EReal) (k : Fin 512) : EReal :=
  e k * Ideal.div 1 (1 + Ideal.exp (-(∑ x, e x * w x k + b k)))

/-- The S5 mixer's row: the scan's output with its skip, through gelu, GLU and the silu of its gate. -/
def s5 (y d u g : Fin 512 → EReal) (w : Fin 512 → Fin 512 → EReal) (b : Fin 512 → EReal) (k : Fin 512) : EReal :=
  glu (fun x => gelu (y x + d x * u x)) w b k * (g k * Ideal.div 1 (1 + Ideal.exp (-g k)))

/-- The head order of the third mixer's columns: a column of the layer's order, in the order the attention kernel wrote. -/
def heads (k : Fin 512) : Fin 512 := ⟨k.val / 64 % 4 * 128 + k.val / 256 * 64 + k.val % 64, by omega⟩
/-- The inverse order. -/
def unheads (k : Fin 512) : Fin 512 := ⟨k.val / 64 % 2 * 256 + k.val / 128 * 64 + k.val % 64, by omega⟩

/-- The two orders undo each other. -/
theorem heads_unheads : ∀ k : Fin 512, heads (unheads k) = k := by decide +kernel
theorem unheads_heads : ∀ k : Fin 512, unheads (heads k) = k := by decide +kernel

/-- The output projection of one row at one output column: the four mixers' 512 columns against the weights' 2048 rows. -/
def project (ym ys yw y5 : Fin 512 → EReal) (w : Fin 2048 → EReal) : EReal :=
  ∑ k : Fin 512, ym k * w ⟨k.val, by omega⟩ + ∑ k : Fin 512, ys k * w ⟨512 + k.val, by omega⟩
    + ∑ k : Fin 512, yw k * w ⟨1024 + (unheads k).val, by omega⟩ + ∑ k : Fin 512, y5 k * w ⟨1536 + k.val, by omega⟩

/-- The post-norm and the residual at one column: the row `a` over its root mean square. -/
def postNorm (x g : EReal) (a : Fin 2048 → EReal) (n : Fin 2048) : EReal :=
  x + a n * Ideal.rsqrt (Ideal.div (∑ k, a k * a k) (Ideal.ofBits FTy.f32 1157627904#32)
    + Ideal.ofBits FTy.f32 897988541#32) * g

/-- Summing the third mixer in the attention kernel's head order is summing it in the layer's. -/
theorem sum_heads (yw : Fin 512 → EReal) (w : Fin 512 → EReal) :
    ∑ k, yw (heads k) * w k = ∑ k, yw k * w (unheads k) := by
  refine (Equiv.sum_comp (⟨unheads, heads, heads_unheads, unheads_heads⟩ : Fin 512 ≃ Fin 512)
    (fun k => yw (heads k) * w k)).symm.trans (Finset.sum_congr rfl fun k _ => ?_)
  show yw (heads (unheads k)) * w (unheads k) = _
  rw [heads_unheads]

/-- A sum over 2048 is the sum of its four quarters. -/
theorem sum_quarters (f : Fin 2048 → EReal) :
    ∑ k, f k = ∑ k : Fin 512, f ⟨k.val, by omega⟩ + ∑ k : Fin 512, f ⟨512 + k.val, by omega⟩
      + ∑ k : Fin 512, f ⟨1024 + k.val, by omega⟩ + ∑ k : Fin 512, f ⟨1536 + k.val, by omega⟩ := by
  have h := Fin.sum_univ_add (a := 1536) (b := 512) f
  have h' := Fin.sum_univ_add (a := 1024) (b := 512) (fun k => f (Fin.castAdd 512 k))
  have h'' := Fin.sum_univ_add (a := 512) (b := 512) (fun k => f (Fin.castAdd 512 (Fin.castAdd 512 k)))
  exact h.trans (congrArg (· + _) (h'.trans (congrArg (· + _) h'')))

end Cert.Proof.OutMath

end
-- ==== Proof.SwaAgree.lean ====
/- The kernel's result and the plain program's are the same at finite arguments. -/
module

public import proofs.«01_k».proof.Proof.SwaValue
public import proofs.«01_k».proof.Proof.SwaRead
public import proofs.«01_k».proof.Proof.OutMath

@[expose] public section

set_option maxRecDepth 16384

noncomputable section

namespace Cert.Proof.SwaAgree

open Cert.SwaRefIdeal Cert.SwaRefIdeal.Gen Cert.SwaRefIdeal.Value Idealize.ShloMosaic Idealize.ShloMosaic.TcCoe Idealize.SL.Sem SwaMath SwaPair SwaKernel SwaRef SwaRead SwaValue

/-- The two programs hide the same keys. -/
theorem visible_iff (t : Nat) (j : Fin 256) : visible (t / 128) (t % 128) j ↔ near (t / 512) (t % 512) j := by
  unfold visible near
  omega

/-- A key the query attends to is at `keyRow`. -/
theorem windows_visible (y : FVec Ideal S4x32x128x2x64 .f32) (A : Fin 4096 → EReal) (b : Fin 4) (g : Fin 2) (d : Fin 64)
    (hy : ∀ (n : Fin 32) (r : Fin 128), y (ix5 b n r g d) = A (⟨n.val * 128 + r.val, by omega⟩ : Fin 4096))
    (t : Fin 4096) (n : Fin 32) (hn : n.val = t.val / 128) (j : Fin 256) (hv : visible (t.val / 128) (t.val % 128) j) :
    windows y (ix5 b n j g d) = A (keyRow t j) := by
  have h2 : 0 < t.val / 128 ∨ 128 ≤ j.val := hv.2
  rw [windows_apply]
  split_ifs with h h1
  · rw [hy]
    refine congrArg A (Fin.ext ?_)
    show (n.val - 1) * 128 + j.val = if 128 ≤ t.val / 128 * 128 + j.val then t.val / 128 * 128 + j.val - 128 else j.val
    split_ifs <;> omega
  · omega
  · rw [hy]
    refine congrArg A (Fin.ext ?_)
    show n.val * 128 + (j.val - 128) = if 128 ≤ t.val / 128 * 128 + j.val then t.val / 128 * 128 + j.val - 128 else j.val
    split_ifs <;> omega

theorem value_eq (m : (ℓ : Loc nD τ sig) → Buf (Elt Ideal) ℓ) (dev : Dev nD)
    (X : FVec Ideal S4x4096x6144 .f32) (hX : m ((dev.tc : Thread nD τ).loc main_arg0) = X)
    (Z : FVec Ideal S8 .f32) (hZ : m ((dev.tc : Thread nD τ).loc main_arg1) = Z)
    (x : S4x4096x6144.Idx → ℝ) (hx : ∀ i, X i = (x i : EReal)) (z : S8.Idx → ℝ) (hz : ∀ i, Z i = (z i : EReal))
    (b : Fin 4) (t : Fin 4096) (col : Fin 512) :
    res_main_v81 m dev (ix3 b t col) = value X Z b t col := by
  let n : Fin 32 := ⟨t.val / 128, by omega⟩
  let r : Fin 128 := ⟨t.val % 128, by omega⟩
  let g : Fin 2 := ⟨col.val / 64 % 2, by omega⟩
  let h : Fin 4 := ⟨col.val / 128, by omega⟩
  let d : Fin 64 := ⟨col.val % 64, by omega⟩
  rw [ref_apply m dev b t col X hX Z hZ n rfl r rfl g rfl h rfl d rfl]
  unfold value
  refine congrArg₂ (· * ·) ?_ (OutMath.silu_eq _).symm
  let a : Fin 128 → ℝ := fun l => x (ix3 b t (⟨4096 + (128 * (col.val / 128) + l.val), by omega⟩ : Fin 6144))
  let k : Fin 256 → Fin 128 → ℝ := fun j l => x (ix3 b (keyRow t j) (⟨4608 + l.val, by omega⟩ : Fin 6144))
  let v : Fin 256 → ℝ := fun j => x (ix3 b (keyRow t j) (⟨4736 + col.val % 128, by omega⟩ : Fin 6144))
  let s : Fin 256 → ℝ := fun j => (∑ d, k j (chan g d) * a (chan g d)) * (1 / 8)
  have lanes_at (j : Fin 256) := lanes_eq g (fun l => X (ix3 b t (⟨4096 + (128 * (col.val / 128) + l.val), by omega⟩ : Fin 6144)))
    (fun l => X (ix3 b (keyRow t j) (⟨4608 + l.val, by omega⟩ : Fin 6144))) a (k j) (fun l => hx _) (fun l => hx _)
  have hk : bandScore (near (t.val / 512) (t.val % 512)) (col.val / 64 % 2)
      (fun l => X (ix3 b t (⟨4096 + (128 * (col.val / 128) + l.val), by omega⟩ : Fin 6144)))
      (fun j l => X (ix3 b (keyRow t j) (⟨4608 + l.val, by omega⟩ : Fin 6144)))
      = banded (visible n.val r.val) fun j => (s j : EReal) := by
    funext j
    unfold bandScore banded
    by_cases hv : visible (t.val / 128) (t.val % 128) j
    · rw [if_pos ((visible_iff t.val j).1 hv)]
      exact ((lanes_at j).1).trans (if_pos hv).symm
    · rw [if_neg (fun h => hv ((visible_iff t.val j).2 h))]
      exact (if_neg hv).symm
  have hr : (banded (visible n.val r.val) fun j => dots (fun d => queries X (ix6 b n r g h d)) (fun d => windows (keys X) (ix5 b n j g d)))
      = banded (visible n.val r.val) fun j => (s j : EReal) := by
    funext j
    unfold banded
    by_cases hv : visible n.val r.val j
    · rw [if_pos hv, if_pos hv]
      refine Eq.trans (congrArg₂ dots (funext fun d => ?_) (funext fun d => ?_)) (lanes_at j).2
      · rw [queries_apply]
        refine congrArg X ?_
        refine congrArg₂ (ix3 b) (Fin.ext ?_) (Fin.ext ?_)
        · show t.val / 128 * 128 + t.val % 128 = t.val; omega
        · show 4096 + (col.val / 128 * 128 + d.val / 32 * 64 + col.val / 64 % 2 * 32 + d.val % 32)
            = 4096 + (128 * (col.val / 128) + (d.val / 32 * 64 + col.val / 64 % 2 * 32 + d.val % 32))
          omega
      · exact windows_visible (keys X) (fun R => X (ix3 b R (⟨4608 + (chan g d).val, by omega⟩ : Fin 6144))) b g d
          (fun n r => keys_apply b n r g d X) t n rfl j hv
    · rw [if_neg hv, if_neg hv]
  rw [hk, hr]
  have hz' : Z (ix1 (⟨g.val * 4 + h.val, by omega⟩ : Fin 8)) = Z (ix1 (⟨col.val / 64 % 2 * 4 + col.val / 128, by omega⟩ : Fin 8)) := rfl
  rw [hz', hz]
  refine (soften_eq_blend (visible n.val r.val) s _ v _ fun j hv => ?_).trans ?_
  · refine (windows_visible (values X) (fun R => X (ix3 b R (⟨4736 + (col.val / 64 % 2 * 64 + col.val % 64), by omega⟩ : Fin 6144))) b g d
      (fun n r => values_apply b n r g d X) t n rfl j hv).trans ((hx _).trans ?_)
    refine congrArg (fun a : Fin 6144 => ((x (ix3 b (keyRow t j) a) : ℝ) : EReal)) (Fin.ext ?_)
    show 4736 + (col.val / 64 % 2 * 64 + col.val % 64) = 4736 + col.val % 128
    omega
  · exact congrArg (fun w => blend _ w _) (funext fun j => (hx _).symm)

end Cert.Proof.SwaAgree

end
-- ==== Proof.SwaFinite.lean ====
/- The precondition of the sliding-window attention's value claim: what it says of the arguments. -/
module

public import proofs.«01_k».proof.Pre_finite
public import Idealize.ShloMosaic.Lib.ReduceAll
public import Idealize.ShloMosaic.Lib.Pointwise
public import Idealize.ShloMosaic.PureOps.Ideal

@[expose] public section

set_option maxRecDepth 16384

noncomputable section

namespace Cert.Proof.SwaFinite

open Cert.Pre_finite Idealize.ShloMosaic

/-- The predicate's shapes fit. -/
theorem facts : Cert.Pre_finite.Facts := ⟨by decide, by decide, by decide, by decide, by decide⟩

instance : Subsingleton S_.Idx := ⟨fun a b => funext fun k => k.elim0⟩

/-- A number whose absolute value is less than infinity is real. -/
theorem real_of_bit (x top : EReal) (htop : top = ⊤) (h : Ideal.cmp .olt (max x (-x)) top = 1#1) : ∃ a : ℝ, x = (a : EReal) := by
  subst htop
  induction x with
  | coe a => exact ⟨a, rfl⟩
  | bot => simp [Ideal.cmp] at h
  | top => simp [Ideal.cmp] at h

theorem pos_inf : Ideal.ofBits .f32 0x7F800000#32 = (⊤ : EReal) := by
  simp [Ideal.ofBits, Ideal.ieee]

/-- Where the predicate holds, every entry of both arguments is real. -/
theorem reals [Cert.Pre_finite.Facts] (X : FVec Ideal S4x4096x6144 .f32) (Z : FVec Ideal S8 .f32)
    (h : Cert.Pre_finite.fn (F := Ideal) X Z = fun _ => 1#1) :
    (∀ i, ∃ a : ℝ, (X i : EReal) = (a : EReal)) ∧ ∀ i, ∃ a : ℝ, (Z i : EReal) = (a : EReal) := by
  have h0 := congrFun h ix0
  obtain ⟨h1, h2⟩ := IntOp.andi_eq_one.1 h0
  exact ⟨fun i => real_of_bit _ _ pos_inf (Host.reduce_andi_all _ _ _ _ ix0 h1 i),
    fun i => real_of_bit _ _ pos_inf (Host.reduce_andi_all _ _ _ _ ix0 h2 i)⟩

end Cert.Proof.SwaFinite

end
-- ==== Proof.SwaClaims.lean ====
/- The claims about the sliding-window attention: its launches run to the end and leave their arguments alone, the ideal
   pass's named constant, the score of a key outside the window, is minus infinity, and over extended reals it computes
   the plain program's result at finite arguments. -/
module

public import proofs.«01_k».proof.Defs
public import proofs.«01_k».proof.Proof.Gen.Swa.Frame
public import proofs.«01_k».proof.Proof.SwaAgree
public import proofs.«01_k».proof.Proof.SwaFinite
public import Idealize.ShloMosaic.Lib.Quiescent

@[expose] public section

noncomputable section

namespace Cert.Proof.SwaClaims

open Idealize.ShloMosaic Idealize.ShloMosaic.TcCoe Idealize.SL.Sem

/-- The kernel's launch, at bits and at extended reals. -/
theorem frame_kernel : Cert.quiescent_Swa := fun m ρ _ => Cert.Swa.Gen.frame m ρ
theorem frame_ideal : Cert.quiescent_SwaIdeal := fun m ρ _ => Cert.SwaIdeal.Gen.frame m ρ

theorem frame_ideal_finite [Cert.Pre_finite.Facts] : Cert.quiescent_SwaIdeal_pre_finite := fun m ρ _ => Cert.SwaIdeal.Gen.frame m ρ

/-- The plain program's run. -/
theorem frame_ref : Cert.quiescent_SwaRefIdeal := fun m ρ _ =>
  (θ_run Cert.SwaRefIdeal.defs _ _).mono (fun r h => ⟨fun c => (h c).2,
      Idealize.ShloMosaic.sem_eq_zero_of_no_sems (by decide) r.2⟩)
    (Cert.SwaRefIdeal.Value.run (F := Ideal) m ρ)

theorem frame_ref_finite [Cert.Pre_finite.Facts] : Cert.quiescent_SwaRefIdeal_pre_finite := fun m ρ _ => frame_ref m ρ trivial

/-- The mask's constant is read as minus infinity. -/
theorem preserves : Cert.preserves_Swa_SwaIdeal := IdealRules.named_const.statement Cert.SwaIdeal.κ "mask" .f32 0xF149F2CA#32 ⊥ rfl

/-- The two results are the same function of finite arguments that agree. -/
theorem algebraic [Cert.Pre_finite.Facts] : Cert.algebraic_SwaIdeal_SwaRefIdeal_pre_finite := by
  intro m ρ m' ρ' hfinite hagree
  refine ⟨fun c => SwaValue.G m c, ?_, ?_⟩
  · exact (θ_run Cert.SwaIdeal.defs _ _).mono (fun _ h c => ⟨(h c).1.trans (SwaValue.final m c), (h c).2⟩)
      (Cert.SwaIdeal.Value.run_blocks (F := Ideal) m ρ)
  · refine (θ_run Cert.SwaRefIdeal.defs _ _).mono (fun _ h c => ⟨(h c).1.trans ?_, (h c).2⟩)
      (Cert.SwaRefIdeal.Value.run (F := Ideal) m' ρ')
    funext i
    obtain ⟨b, t, col, rfl⟩ : ∃ (b : Fin 4) (t : Fin 4096) (col : Fin 512), i = ix3 b t col :=
      ⟨i 0, i 1, i 2, by funext a; fin_cases a <;> rfl⟩
    obtain ⟨e0, e1⟩ := hagree c
    obtain ⟨hX, hZ⟩ := SwaFinite.reals _ _ (hfinite c)
    choose x hx using hX
    choose z hz using hZ
    exact SwaAgree.value_eq m' c _ e0 _ e1 x hx z hz b t col

end Cert.Proof.SwaClaims

end
-- ==== Proof.OutKernel.lean ====
/- The kernel of the output projection, read at one entry of one block. -/
module

public import proofs.«01_k».proof.Proof.Gen.OutIdeal.Value
public import proofs.«01_k».proof.Proof.OutMath
public import Idealize.ShloMosaic.Lib.StableHlo.ReadAt

@[expose] public section

set_option maxRecDepth 16384

noncomputable section

namespace Cert.Proof.OutKernel

open Cert.OutIdeal Cert.OutIdeal.Gen Cert.OutIdeal.Value Idealize.ShloMosaic Idealize.ShloMosaic.TcCoe Idealize.SL.Sem OutMath

theorem hz2 : (![0, 0] : Fin 2 → Nat) = fun _ => 0 := funext fun a => by fin_cases a <;> rfl
theorem hz3 : (![0, 0, 0] : Fin 3 → Nat) = fun _ => 0 := funext fun a => by fin_cases a <;> rfl

/-- The S5 mixer's skip, gelu and GLU at one entry. -/
theorem pay2_apply (v0 : Vec Ideal S512x512 .f32) (v1 : Vec Ideal S1x512 .f32) (v3 : Vec Ideal S512x512 .f32)
    (v21 : Vec Ideal S1x512x512 .bf16) (v24 : Vec Ideal S1x512 .f32) (r k : Fin 512) :
    k0_pay2 v0 v1 v3 v21 v24 (ix2 r k)
      = glu (fun x => gelu (v0 (ix2 r x) + v1 (ix2 (0 : Fin 1) x) * v3 (ix2 r x))) (fun x k => v21 (ix3 (0 : Fin 1) x k))
          (fun k => v24 (ix2 (0 : Fin 1) k)) k := by
  unfold glu
  rw [← zero_sub (_ + _ : EReal)]
  pointwise [k0_pay2, gelu]

/-- The four products of the output projection, summed, at one entry. -/
theorem pay3_apply (v35 : FVec Ideal S512x512 .f32) (v36 : Vec Ideal S512x512 .f32)
    (v44 v45 v46 : Vec Ideal S512x512 .bf16) (v48 v51 v55 v59 : Vec Ideal S1x512x2048 .bf16) (r : Fin 512) (n : Fin 2048) :
    k0_pay3 v35 v36 (0 : EReal) v44 v45 v46 v48 v51 v55 v59 (ix2 r n)
      = ∑ x : Fin 512, v44 (ix2 r x) * v48 (ix3 (0 : Fin 1) x n) + ∑ x : Fin 512, v45 (ix2 r x) * v51 (ix3 (0 : Fin 1) x n)
        + ∑ x : Fin 512, v46 (ix2 r x) * v55 (ix3 (0 : Fin 1) x n)
        + ∑ x : Fin 512, v35 (ix2 r x) * (v36 (ix2 r x) * Ideal.div 1 (1 + Ideal.exp (-v36 (ix2 r x)))) * v59 (ix3 (0 : Fin 1) x n) := by
  simp only [← silu_eq]
  pointwise [k0_pay3]

/-- What a grid point writes, at one entry, of its blocks: the last stage's row of the block's rows, the weights' four
    quarters of rows each against its mixer. -/
theorem out_apply (x0 x1 x2 : Vec Ideal S512x512 .bf16) (x3 x4 x5 : Vec Ideal S512x512 .f32) (x6 : Vec Ideal S512x2048 .f32)
    (x7 : Vec Ideal S1x2048x2048 .bf16) (x8 : Vec Ideal S1x2048 .f32) (x9 : Vec Ideal S1x512 .f32)
    (x10 : Vec Ideal S1x512x512 .bf16) (x11 : Vec Ideal S1x512 .f32) (r : Fin 512) (n : Fin 2048) :
    out0_12 x0 x1 x2 x3 x4 x5 x6 x7 x8 x9 x10 x11 (ix2 r n)
      = postNorm (x6 (ix2 r n)) (x8 (ix2 (0 : Fin 1) n))
          (fun n => ∑ x : Fin 512, x0 (ix2 r x) * x7 (ix3 (0 : Fin 1) (⟨x.val, by omega⟩ : Fin 2048) n)
            + ∑ x : Fin 512, x1 (ix2 r x) * x7 (ix3 (0 : Fin 1) (⟨512 + x.val, by omega⟩ : Fin 2048) n)
            + ∑ x : Fin 512, x2 (ix2 r x) * x7 (ix3 (0 : Fin 1) (⟨1024 + x.val, by omega⟩ : Fin 2048) n)
            + ∑ x : Fin 512, s5 (fun k => x3 (ix2 r k)) (fun k => x9 (ix2 (0 : Fin 1) k)) (fun k => x4 (ix2 r k))
                (fun k => x5 (ix2 r k)) (fun x k => x10 (ix3 (0 : Fin 1) x k)) (fun k => x11 (ix2 (0 : Fin 1) k)) x
              * x7 (ix3 (0 : Fin 1) (⟨1536 + x.val, by omega⟩ : Fin 2048) n)) n := by
  unfold out0_12
  rw [View.canon_unit_zero hz2]
  pointwise [k0_pay1, k0_pay4]
  simp only [pay3_apply, k0_pay5, pay2_apply]
  unfold postNorm s5
  pointwise

end Cert.Proof.OutKernel

end
-- ==== Proof.OutRef.lean ====
/- The plain program of the output projection, read at one entry. -/
module

public import proofs.«01_k».proof.Proof.Gen.OutRefIdeal.Run
public import proofs.«01_k».proof.Proof.OutMath
public import Idealize.ShloMosaic.Lib.Tactic.CleanTypes

@[expose] public section

set_option maxRecDepth 16384

noncomputable section

namespace Cert.Proof.OutRef

open Cert.OutRefIdeal Cert.OutRefIdeal.Value Idealize.ShloMosaic Idealize.ShloMosaic.TcCoe Idealize.SL.Sem OutMath

/-- The row that the output projection multiplies: the four mixers side by side, the third with its heads put in order. -/
def mix (ym ys yw y5 : Fin 512 → EReal) (x : Fin 2048) : EReal :=
  if h : x.val < 512 then ym ⟨x.val, h⟩
  else if h : x.val - 512 < 512 then ys ⟨x.val - 512, h⟩
  else if h : x.val - 512 - 512 < 512 then yw (heads ⟨x.val - 512 - 512, h⟩)
  else y5 ⟨x.val - 512 - 512 - 512, by omega⟩

/-- That row against the weights is the four mixers' projections. -/
theorem sum_mix (ym ys yw y5 : Fin 512 → EReal) (w : Fin 2048 → EReal) :
    ∑ x, mix ym ys yw y5 x * w x = project ym ys yw y5 w := by
  have h0 (k : Fin 512) (h : k.val < 2048) : mix ym ys yw y5 ⟨k.val, h⟩ = ym k := by
    unfold mix; rw [dif_pos (show k.val < 512 from k.isLt)]
  have h1 (k : Fin 512) (h : 512 + k.val < 2048) : mix ym ys yw y5 ⟨512 + k.val, h⟩ = ys k := by
    unfold mix
    rw [dif_neg (show ¬ 512 + k.val < 512 by omega), dif_pos (show 512 + k.val - 512 < 512 by omega)]
    exact congrArg ys (Fin.ext (show 512 + k.val - 512 = k.val by omega))
  have h2 (k : Fin 512) (h : 1024 + k.val < 2048) : mix ym ys yw y5 ⟨1024 + k.val, h⟩ = yw (heads k) := by
    unfold mix
    rw [dif_neg (show ¬ 1024 + k.val < 512 by omega), dif_neg (show ¬ 1024 + k.val - 512 < 512 by omega),
      dif_pos (show 1024 + k.val - 512 - 512 < 512 by omega)]
    exact congrArg (fun j => yw (heads j)) (Fin.ext (show 1024 + k.val - 512 - 512 = k.val by omega))
  have h3 (k : Fin 512) (h : 1536 + k.val < 2048) : mix ym ys yw y5 ⟨1536 + k.val, h⟩ = y5 k := by
    unfold mix
    rw [dif_neg (show ¬ 1536 + k.val < 512 by omega), dif_neg (show ¬ 1536 + k.val - 512 < 512 by omega),
      dif_neg (show ¬ 1536 + k.val - 512 - 512 < 512 by omega)]
    exact congrArg y5 (Fin.ext (show 1536 + k.val - 512 - 512 - 512 = k.val by omega))
  rw [sum_quarters]
  simp only [h0, h1, h2, h3]
  rw [sum_heads yw (fun k => w ⟨1024 + k.val, by omega⟩)]
  rfl

/-- The last stage's result, entry by entry, of its eleven arguments. -/
def result (x0 x1 x2 : Vec Ideal S16384x512 .bf16) (x3 : Vec Ideal S16384x512 .f32) (x4 : Vec Ideal S16384x6144 .f32)
    (x5 : Vec Ideal S16384x2048 .f32) (x6 : Vec Ideal S4x2048x2048 .f32) (x7 : Vec Ideal S2048 .f32)
    (x8 : Vec Ideal S512 .f32) (x9 : Vec Ideal S4x512x512 .f32) (x10 : Vec Ideal S512 .f32)
    (r : Fin 16384) (n : Fin 2048) : EReal :=
  postNorm (x5 (ix2 r n)) (x7 (ix1 n))
    (fun n => project (fun k => x0 (ix2 r k)) (fun k => x1 (ix2 r k)) (fun k => x2 (ix2 r k))
      (s5 (fun k => x3 (ix2 r k)) (fun k => x8 (ix1 k)) (fun k => x4 (ix2 r ⟨5120 + k.val, by omega⟩))
        (fun k => x4 (ix2 r ⟨5632 + k.val, by omega⟩)) (fun x k => x9 (ix3 (0 : Fin 4) x k)) (fun k => x10 (ix1 k)))
      (fun k => x6 (ix3 (0 : Fin 4) k n))) n

/-- The plain program's result at an entry is `result` of its arguments. -/
theorem ref_apply (m : (ℓ : Loc nD τ sig) → Buf (Elt Ideal) ℓ) (c : Dev nD) (r : Fin 16384) (n : Fin 2048) :
    res_main_v57 m c (ix2 r n) = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) r n := by
  unfold res_main_v57
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  generalize m ((c.tc : Thread nD τ).loc main_arg5) = x5
  generalize m ((c.tc : Thread nD τ).loc main_arg6) = x6
  generalize m ((c.tc : Thread nD τ).loc main_arg7) = x7
  generalize m ((c.tc : Thread nD τ).loc main_arg8) = x8
  generalize m ((c.tc : Thread nD τ).loc main_arg9) = x9
  generalize m ((c.tc : Thread nD τ).loc main_arg10) = x10
  clean_types
  pointwise
  unfold result
  simp only [← sum_mix]
  rfl

end Cert.Proof.OutRef

end
-- ==== Proof.OutValue.lean ====
/- The output projection's result array. The launch has 32 points; each writes 512 rows of the result from the same rows of
   its row arguments, two 512-column tiles of the projection and the whole weights, which the host lines before the launch
   have laid out. So every entry is `OutRef.result` of the arguments. -/
module

public import proofs.«01_k».proof.Proof.OutKernel
public import proofs.«01_k».proof.Proof.OutRef

@[expose] public section

set_option maxRecDepth 16384

noncomputable section

namespace Cert.Proof.OutValue

open Cert.OutIdeal Cert.OutIdeal.Gen Cert.OutIdeal.Value Idealize.ShloMosaic Idealize.ShloMosaic.TcCoe Idealize.SL.Sem OutMath OutKernel

variable (m : (ℓ : Loc nD τ sig) → Buf (Elt Ideal) ℓ) (ρ : Dev nD → PrngReg)

/-! ## What the host lines before the launch have written -/

/-- The weights as laid out: the rows of the first two mixers and of the last as they are, the third mixer's in the order
    of the attention kernel's heads. -/
theorem weights_0 (c : Dev nD) (k : Fin 512) (n : Fin 2048) :
    V m c main_v7 (ix3 (0 : Fin 4) (⟨k.val, by omega⟩ : Fin 2048) n)
      = m ((c.tc : Thread nD τ).loc main_arg6) (ix3 (0 : Fin 4) (⟨k.val, by omega⟩ : Fin 2048) n) := by
  unfold V
  after_reads_at
  rw [dif_pos (show k.val < 1024 by omega)]
  after_reads_at

theorem weights_1 (c : Dev nD) (k : Fin 512) (n : Fin 2048) :
    V m c main_v7 (ix3 (0 : Fin 4) (⟨512 + k.val, by omega⟩ : Fin 2048) n)
      = m ((c.tc : Thread nD τ).loc main_arg6) (ix3 (0 : Fin 4) (⟨512 + k.val, by omega⟩ : Fin 2048) n) := by
  unfold V
  after_reads_at
  rw [dif_pos (show 512 + k.val < 1024 by omega)]
  after_reads_at

theorem weights_2 (c : Dev nD) (k : Fin 512) (n : Fin 2048) :
    V m c main_v7 (ix3 (0 : Fin 4) (⟨1024 + k.val, by omega⟩ : Fin 2048) n)
      = m ((c.tc : Thread nD τ).loc main_arg6) (ix3 (0 : Fin 4) (⟨1024 + (unheads k).val, by omega⟩ : Fin 2048) n) := by
  unfold V
  after_reads_at
  after_reads_at
  rfl

theorem weights_3 (c : Dev nD) (k : Fin 512) (n : Fin 2048) :
    V m c main_v7 (ix3 (0 : Fin 4) (⟨1536 + k.val, by omega⟩ : Fin 2048) n)
      = m ((c.tc : Thread nD τ).loc main_arg6) (ix3 (0 : Fin 4) (⟨1536 + k.val, by omega⟩ : Fin 2048) n) := by
  unfold V
  after_reads_at
  rw [dif_neg (show ¬ 1536 + k.val < 1024 by omega), dif_neg (show ¬ 1536 + k.val - 1024 < 512 by omega)]
  after_reads_at
  exact congrArg (fun k => m (c, Proc.devRef .tc main_arg6) (ix3 (0 : Fin 4) k n))
    (Fin.ext (show 1536 + (1536 + k.val - 1024 - 512) = 1536 + k.val by omega))

/-- The norm's gain, the skip's factor and the GLU's bias as one-row arrays, and the GLU's weights. -/
theorem gain (c : Dev nD) (n : Fin 2048) :
    V m c main_v9 (ix2 (0 : Fin 1) n) = m ((c.tc : Thread nD τ).loc main_arg7) (ix1 n) := by
  unfold V; after_reads_at
theorem skip (c : Dev nD) (n : Fin 512) :
    V m c main_v10 (ix2 (0 : Fin 1) n) = m ((c.tc : Thread nD τ).loc main_arg8) (ix1 n) := by
  unfold V; after_reads_at
theorem bias (c : Dev nD) (n : Fin 512) :
    V m c main_v11 (ix2 (0 : Fin 1) n) = m ((c.tc : Thread nD τ).loc main_arg10) (ix1 n) := by
  unfold V; after_reads_at
theorem glu_w (c : Dev nD) (k n : Fin 512) :
    V m c main_v8 (ix3 (0 : Fin 4) k n) = m ((c.tc : Thread nD τ).loc main_arg9) (ix3 (0 : Fin 4) k n) := by
  unfold V; after_reads_at

/-! ## Each window's block in its array -/

/-- The first mixer's rows: block row `r` of point `t` is row `512 t + r`. -/
theorem blk0 (c : Dev nD) (t : Fin cfg0.N) (r : Fin 512) (k : Fin 512) (R : Fin 16384) (hR : R.val = 512 * t.val + r.val) :
    iblk m c 0 t (ix2 r k) = m ((c.tc : Thread nD τ).loc main_arg0) (ix2 R k) := by
  rw [← V_main_arg0 m c]
  show V m c main_arg0 (((cfg0.win 0).blk t).view.emb (ix2 r k)) = _
  obtain ⟨e0, e1⟩ := (by decide +kernel : ∀ t : Fin grid0.N,
    win0_0.index t (0 : Fin 2) = t.val ∧ win0_0.index t (1 : Fin 2) = 0) t
  refine congrArg _ (funext fun a => Fin.ext ?_)
  match a with
  | ⟨0, _⟩ => show win0_0.index t (0 : Fin 2) * 512 + 1 * r.val = R.val; omega
  | ⟨1, _⟩ => show win0_0.index t (1 : Fin 2) * 512 + 1 * k.val = k.val; omega

/-- The second mixer's rows. -/
theorem blk1 (c : Dev nD) (t : Fin cfg0.N) (r : Fin 512) (k : Fin 512) (R : Fin 16384) (hR : R.val = 512 * t.val + r.val) :
    iblk m c 1 t (ix2 r k) = m ((c.tc : Thread nD τ).loc main_arg1) (ix2 R k) := by
  rw [← V_main_arg1 m c]
  show V m c main_arg1 (((cfg0.win 1).blk t).view.emb (ix2 r k)) = _
  obtain ⟨e0, e1⟩ := (by decide +kernel : ∀ t : Fin grid0.N,
    win0_1.index t (0 : Fin 2) = t.val ∧ win0_1.index t (1 : Fin 2) = 0) t
  refine congrArg _ (funext fun a => Fin.ext ?_)
  match a with
  | ⟨0, _⟩ => show win0_1.index t (0 : Fin 2) * 512 + 1 * r.val = R.val; omega
  | ⟨1, _⟩ => show win0_1.index t (1 : Fin 2) * 512 + 1 * k.val = k.val; omega

/-- The third mixer's rows. -/
theorem blk2 (c : Dev nD) (t : Fin cfg0.N) (r : Fin 512) (k : Fin 512) (R : Fin 16384) (hR : R.val = 512 * t.val + r.val) :
    iblk m c 2 t (ix2 r k) = m ((c.tc : Thread nD τ).loc main_arg2) (ix2 R k) := by
  rw [← V_main_arg2 m c]
  show V m c main_arg2 (((cfg0.win 2).blk t).view.emb (ix2 r k)) = _
  obtain ⟨e0, e1⟩ := (by decide +kernel : ∀ t : Fin grid0.N,
    win0_2.index t (0 : Fin 2) = t.val ∧ win0_2.index t (1 : Fin 2) = 0) t
  refine congrArg _ (funext fun a => Fin.ext ?_)
  match a with
  | ⟨0, _⟩ => show win0_2.index t (0 : Fin 2) * 512 + 1 * r.val = R.val; omega
  | ⟨1, _⟩ => show win0_2.index t (1 : Fin 2) * 512 + 1 * k.val = k.val; omega

/-- The S5 scan's rows. -/
theorem blk3 (c : Dev nD) (t : Fin cfg0.N) (r : Fin 512) (k : Fin 512) (R : Fin 16384) (hR : R.val = 512 * t.val + r.val) :
    iblk m c 3 t (ix2 r k) = m ((c.tc : Thread nD τ).loc main_arg3) (ix2 R k) := by
  rw [← V_main_arg3 m c]
  show V m c main_arg3 (((cfg0.win 3).blk t).view.emb (ix2 r k)) = _
  obtain ⟨e0, e1⟩ := (by decide +kernel : ∀ t : Fin grid0.N,
    win0_3.index t (0 : Fin 2) = t.val ∧ win0_3.index t (1 : Fin 2) = 0) t
  refine congrArg _ (funext fun a => Fin.ext ?_)
  match a with
  | ⟨0, _⟩ => show win0_3.index t (0 : Fin 2) * 512 + 1 * r.val = R.val; omega
  | ⟨1, _⟩ => show win0_3.index t (1 : Fin 2) * 512 + 1 * k.val = k.val; omega

/-- The S5 mixer's input, ten tiles into the projection's columns. -/
theorem blk4 (c : Dev nD) (t : Fin cfg0.N) (r : Fin 512) (k : Fin 512) (R : Fin 16384) (hR : R.val = 512 * t.val + r.val) :
    iblk m c 4 t (ix2 r k) = m ((c.tc : Thread nD τ).loc main_arg4) (ix2 R (⟨5120 + k.val, by omega⟩ : Fin 6144)) := by
  rw [← V_main_arg4 m c]
  show V m c main_arg4 (((cfg0.win 4).blk t).view.emb (ix2 r k)) = _
  obtain ⟨e0, e1⟩ := (by decide +kernel : ∀ t : Fin grid0.N,
    win0_4.index t (0 : Fin 2) = t.val ∧ win0_4.index t (1 : Fin 2) = 10) t
  refine congrArg _ (funext fun a => Fin.ext ?_)
  match a with
  | ⟨0, _⟩ => show win0_4.index t (0 : Fin 2) * 512 + 1 * r.val = R.val; omega
  | ⟨1, _⟩ => show win0_4.index t (1 : Fin 2) * 512 + 1 * k.val = 5120 + k.val; omega

/-- The S5 mixer's gate, eleven tiles in. -/
theorem blk5 (c : Dev nD) (t : Fin cfg0.N) (r : Fin 512) (k : Fin 512) (R : Fin 16384) (hR : R.val = 512 * t.val + r.val) :
    iblk m c 5 t (ix2 r k) = m ((c.tc : Thread nD τ).loc main_arg4) (ix2 R (⟨5632 + k.val, by omega⟩ : Fin 6144)) := by
  rw [← V_main_arg4 m c]
  show V m c main_arg4 (((cfg0.win 5).blk t).view.emb (ix2 r k)) = _
  obtain ⟨e0, e1⟩ := (by decide +kernel : ∀ t : Fin grid0.N,
    win0_5.index t (0 : Fin 2) = t.val ∧ win0_5.index t (1 : Fin 2) = 11) t
  refine congrArg _ (funext fun a => Fin.ext ?_)
  match a with
  | ⟨0, _⟩ => show win0_5.index t (0 : Fin 2) * 512 + 1 * r.val = R.val; omega
  | ⟨1, _⟩ => show win0_5.index t (1 : Fin 2) * 512 + 1 * k.val = 5632 + k.val; omega

/-- The residual's rows. -/
theorem blk6 (c : Dev nD) (t : Fin cfg0.N) (r : Fin 512) (k : Fin 2048) (R : Fin 16384) (hR : R.val = 512 * t.val + r.val) :
    iblk m c 6 t (ix2 r k) = m ((c.tc : Thread nD τ).loc main_arg5) (ix2 R k) := by
  rw [← V_main_arg5 m c]
  show V m c main_arg5 (((cfg0.win 6).blk t).view.emb (ix2 r k)) = _
  obtain ⟨e0, e1⟩ := (by decide +kernel : ∀ t : Fin grid0.N,
    win0_6.index t (0 : Fin 2) = t.val ∧ win0_6.index t (1 : Fin 2) = 0) t
  refine congrArg _ (funext fun a => Fin.ext ?_)
  match a with
  | ⟨0, _⟩ => show win0_6.index t (0 : Fin 2) * 512 + 1 * r.val = R.val; omega
  | ⟨1, _⟩ => show win0_6.index t (1 : Fin 2) * 2048 + 1 * k.val = k.val; omega

/-- The weights' block is layer 0. -/
theorem blk7 (c : Dev nD) (t : Fin cfg0.N) (k n : Fin 2048) :
    iblk m c 7 t (ix3 (0 : Fin 1) k n) = V m c main_v7 (ix3 (0 : Fin 4) k n) := by
  show V m c main_v7 (((cfg0.win 7).blk t).view.emb (ix3 (0 : Fin 1) k n)) = _
  obtain ⟨e0, e1, e2⟩ := (by decide +kernel : ∀ t : Fin grid0.N,
    win0_7.index t (0 : Fin 3) = 0 ∧ win0_7.index t (1 : Fin 3) = 0 ∧ win0_7.index t (2 : Fin 3) = 0) t
  refine congrArg _ (funext fun a => Fin.ext ?_)
  match a with
  | ⟨0, _⟩ => show win0_7.index t (0 : Fin 3) * 1 + 1 * 0 = 0; omega
  | ⟨1, _⟩ => show win0_7.index t (1 : Fin 3) * 2048 + 1 * k.val = k.val; omega
  | ⟨2, _⟩ => show win0_7.index t (2 : Fin 3) * 2048 + 1 * n.val = n.val; omega

/-- The norm's gain. -/
theorem blk8 (c : Dev nD) (t : Fin cfg0.N) (k : Fin 2048) :
    iblk m c 8 t (ix2 (0 : Fin 1) k) = V m c main_v9 (ix2 (0 : Fin 1) k) := by
  show V m c main_v9 (((cfg0.win 8).blk t).view.emb (ix2 (0 : Fin 1) k)) = _
  obtain ⟨e0, e1⟩ := (by decide +kernel : ∀ t : Fin grid0.N,
    win0_8.index t (0 : Fin 2) = 0 ∧ win0_8.index t (1 : Fin 2) = 0) t
  refine congrArg _ (funext fun a => Fin.ext ?_)
  match a with
  | ⟨0, _⟩ => show win0_8.index t (0 : Fin 2) * 1 + 1 * 0 = 0; omega
  | ⟨1, _⟩ => show win0_8.index t (1 : Fin 2) * 2048 + 1 * k.val = k.val; omega

/-- The skip's factor. -/
theorem blk9 (c : Dev nD) (t : Fin cfg0.N) (k : Fin 512) :
    iblk m c 9 t (ix2 (0 : Fin 1) k) = V m c main_v10 (ix2 (0 : Fin 1) k) := by
  show V m c main_v10 (((cfg0.win 9).blk t).view.emb (ix2 (0 : Fin 1) k)) = _
  obtain ⟨e0, e1⟩ := (by decide +kernel : ∀ t : Fin grid0.N,
    win0_9.index t (0 : Fin 2) = 0 ∧ win0_9.index t (1 : Fin 2) = 0) t
  refine congrArg _ (funext fun a => Fin.ext ?_)
  match a with
  | ⟨0, _⟩ => show win0_9.index t (0 : Fin 2) * 1 + 1 * 0 = 0; omega
  | ⟨1, _⟩ => show win0_9.index t (1 : Fin 2) * 512 + 1 * k.val = k.val; omega

/-- The GLU's weights' block is layer 0. -/
theorem blk10 (c : Dev nD) (t : Fin cfg0.N) (k n : Fin 512) :
    iblk m c 10 t (ix3 (0 : Fin 1) k n) = V m c main_v8 (ix3 (0 : Fin 4) k n) := by
  show V m c main_v8 (((cfg0.win 10).blk t).view.emb (ix3 (0 : Fin 1) k n)) = _
  obtain ⟨e0, e1, e2⟩ := (by decide +kernel : ∀ t : Fin grid0.N,
    win0_10.index t (0 : Fin 3) = 0 ∧ win0_10.index t (1 : Fin 3) = 0 ∧ win0_10.index t (2 : Fin 3) = 0) t
  refine congrArg _ (funext fun a => Fin.ext ?_)
  match a with
  | ⟨0, _⟩ => show win0_10.index t (0 : Fin 3) * 1 + 1 * 0 = 0; omega
  | ⟨1, _⟩ => show win0_10.index t (1 : Fin 3) * 512 + 1 * k.val = k.val; omega
  | ⟨2, _⟩ => show win0_10.index t (2 : Fin 3) * 512 + 1 * n.val = n.val; omega

/-- The GLU's bias. -/
theorem blk11 (c : Dev nD) (t : Fin cfg0.N) (k : Fin 512) :
    iblk m c 11 t (ix2 (0 : Fin 1) k) = V m c main_v11 (ix2 (0 : Fin 1) k) := by
  show V m c main_v11 (((cfg0.win 11).blk t).view.emb (ix2 (0 : Fin 1) k)) = _
  obtain ⟨e0, e1⟩ := (by decide +kernel : ∀ t : Fin grid0.N,
    win0_11.index t (0 : Fin 2) = 0 ∧ win0_11.index t (1 : Fin 2) = 0) t
  refine congrArg _ (funext fun a => Fin.ext ?_)
  match a with
  | ⟨0, _⟩ => show win0_11.index t (0 : Fin 2) * 1 + 1 * 0 = 0; omega
  | ⟨1, _⟩ => show win0_11.index t (1 : Fin 2) * 512 + 1 * k.val = k.val; omega

/-! The blocks of what the host lines wrote, in terms of the arguments. -/

theorem blk7_0 (c : Dev nD) (t : Fin cfg0.N) (k : Fin 512) (n : Fin 2048) :
    iblk m c 7 t (ix3 (0 : Fin 1) (⟨k.val, by omega⟩ : Fin 2048) n)
      = m ((c.tc : Thread nD τ).loc main_arg6) (ix3 (0 : Fin 4) (⟨k.val, by omega⟩ : Fin 2048) n) :=
  (blk7 m c t _ n).trans (weights_0 m c k n)
theorem blk7_1 (c : Dev nD) (t : Fin cfg0.N) (k : Fin 512) (n : Fin 2048) :
    iblk m c 7 t (ix3 (0 : Fin 1) (⟨512 + k.val, by omega⟩ : Fin 2048) n)
      = m ((c.tc : Thread nD τ).loc main_arg6) (ix3 (0 : Fin 4) (⟨512 + k.val, by omega⟩ : Fin 2048) n) :=
  (blk7 m c t _ n).trans (weights_1 m c k n)
theorem blk7_2 (c : Dev nD) (t : Fin cfg0.N) (k : Fin 512) (n : Fin 2048) :
    iblk m c 7 t (ix3 (0 : Fin 1) (⟨1024 + k.val, by omega⟩ : Fin 2048) n)
      = m ((c.tc : Thread nD τ).loc main_arg6) (ix3 (0 : Fin 4) (⟨1024 + (unheads k).val, by omega⟩ : Fin 2048) n) :=
  (blk7 m c t _ n).trans (weights_2 m c k n)
theorem blk7_3 (c : Dev nD) (t : Fin cfg0.N) (k : Fin 512) (n : Fin 2048) :
    iblk m c 7 t (ix3 (0 : Fin 1) (⟨1536 + k.val, by omega⟩ : Fin 2048) n)
      = m ((c.tc : Thread nD τ).loc main_arg6) (ix3 (0 : Fin 4) (⟨1536 + k.val, by omega⟩ : Fin 2048) n) :=
  (blk7 m c t _ n).trans (weights_3 m c k n)
theorem blk8_eq (c : Dev nD) (t : Fin cfg0.N) (k : Fin 2048) :
    iblk m c 8 t (ix2 (0 : Fin 1) k) = m ((c.tc : Thread nD τ).loc main_arg7) (ix1 k) :=
  (blk8 m c t k).trans (gain m c k)
theorem blk9_eq (c : Dev nD) (t : Fin cfg0.N) (k : Fin 512) :
    iblk m c 9 t (ix2 (0 : Fin 1) k) = m ((c.tc : Thread nD τ).loc main_arg8) (ix1 k) :=
  (blk9 m c t k).trans (skip m c k)
theorem blk11_eq (c : Dev nD) (t : Fin cfg0.N) (k : Fin 512) :
    iblk m c 11 t (ix2 (0 : Fin 1) k) = m ((c.tc : Thread nD τ).loc main_arg10) (ix1 k) :=
  (blk11 m c t k).trans (bias m c k)
theorem blk10_eq (c : Dev nD) (t : Fin cfg0.N) (k n : Fin 512) :
    iblk m c 10 t (ix3 (0 : Fin 1) k n) = m ((c.tc : Thread nD τ).loc main_arg9) (ix3 (0 : Fin 4) k n) :=
  (blk10 m c t k n).trans (glu_w m c k n)

/-! ## The result array -/

/-- The result array: `OutRef.result` of the arguments at each entry. -/
def G (c : Dev nD) : Vec Ideal S16384x2048 .f32 := fun i =>
  OutRef.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1)

/-- What a point writes back is its block of `G`. -/
theorem flushed_eq (c : Dev nD) (t : Fin cfg0.N) :
    (dats m 0 c).flushed 12 t = ((cfg0.win 12).blk t).view.read (Elt Ideal) (G m c) := by
  rw [flushed12]
  funext j
  obtain ⟨r, n, rfl⟩ : ∃ (r : Fin 512) (n : Fin 2048), j = ix2 r n := ⟨j 0, j 1, by funext a; fin_cases a <;> rfl⟩
  obtain ⟨e0, e1⟩ := (by decide +kernel : ∀ t : Fin grid0.N,
    win0_12.index t (0 : Fin 2) = t.val ∧ win0_12.index t (1 : Fin 2) = 0) t
  have ht : t.val < 32 := lt_of_lt_of_eq t.isLt Gen.N_0
  let R : Fin 16384 := ⟨512 * t.val + r.val, by omega⟩
  have hR : R.val = 512 * t.val + r.val := rfl
  show out0_12 _ _ _ _ _ _ _ _ _ _ _ _ (ix2 r n) = G m c (((cfg0.win 12).blk t).view.emb (ix2 r n))
  have hemb : ((cfg0.win 12).blk t).view.emb (ix2 r n) = ix2 R n := by
    refine funext fun a => Fin.ext ?_
    match a with
    | ⟨0, _⟩ => show win0_12.index t (0 : Fin 2) * 512 + 1 * r.val = R.val; omega
    | ⟨1, _⟩ => show win0_12.index t (1 : Fin 2) * 2048 + 1 * n.val = n.val; omega
  rw [hemb, out_apply]
  simp only [blk0 m c t r _ R hR, blk1 m c t r _ R hR, blk2 m c t r _ R hR, blk3 m c t r _ R hR, blk4 m c t r _ R hR,
    blk5 m c t r _ R hR, blk6 m c t r _ R hR, blk7_0, blk7_1, blk7_2, blk7_3, blk8_eq, blk9_eq, blk10_eq, blk11_eq]
  rfl

/-- Every entry of the result is in the block of the point of its row. -/
theorem covered (i : S16384x2048.Idx) :
    ∃ t : Fin cfg0.N, (cfg0.win 12).flush t = true ∧ i ∈ ((cfg0.win 12).blk t).view.set := by
  have h0 : (i 0).val < 16384 := (i 0).isLt
  have h1 : (i 1).val < 2048 := (i 1).isLt
  obtain ⟨t, ht⟩ : ∃ t : Fin cfg0.N, t.val = (i 0).val / 512 :=
    ⟨⟨(i 0).val / 512, by show _ < grid0.N; rw [Gen.N_0]; omega⟩, rfl⟩
  refine ⟨t, flush0_12 t, ?_⟩
  obtain ⟨e0, e1⟩ := (by decide +kernel : ∀ t : Fin grid0.N,
    win0_12.index t (0 : Fin 2) = t.val ∧ win0_12.index t (1 : Fin 2) = 0) t
  show i ∈ ((View.whole main_v12).slice (win0_12.rect t)).set
  rw [View.set_slice_whole, Rect.mem_set_unit]
  intro a
  match a with
  | ⟨0, _⟩ =>
    show win0_12.index t (0 : Fin 2) * 512 ≤ (i 0).val ∧ (i 0).val < win0_12.index t (0 : Fin 2) * 512 + 512
    omega
  | ⟨1, _⟩ =>
    show win0_12.index t (1 : Fin 2) * 2048 ≤ (i 1).val ∧ (i 1).val < win0_12.index t (1 : Fin 2) * 2048 + 2048
    omega

/-- The result array after the run. -/
theorem final (c : Dev nD) : (dats m 0 c).arrAt 12 cfg0.N = G m c :=
  (dats m 0 c).arrAt_eq_of_cover 12 (G m c) (fun t _ => flushed_eq m c t) covered

end Cert.Proof.OutValue

end
-- ==== Proof.OutClaims.lean ====
/- The claims about the output projection: its launches run to the end and leave their arguments alone, the ideal pass
   rewrote nothing, and over extended reals it computes the plain program's result. -/
module

public import proofs.«01_k».proof.Defs
public import proofs.«01_k».proof.Proof.Gen.Out.Frame
public import proofs.«01_k».proof.Proof.OutValue
public import Idealize.ShloMosaic.Lib.Quiescent

@[expose] public section

noncomputable section

namespace Cert.Proof.OutClaims

open Idealize.ShloMosaic Idealize.ShloMosaic.TcCoe Idealize.SL.Sem

/-- The kernel's launch, at bits and at extended reals. -/
theorem frame_kernel : Cert.quiescent_Out := fun m ρ _ => Cert.Out.Gen.frame m ρ
theorem frame_ideal : Cert.quiescent_OutIdeal := fun m ρ _ => Cert.OutIdeal.Gen.frame m ρ

/-- The plain program's run. -/
theorem frame_ref : Cert.quiescent_OutRefIdeal := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)

/-- The ideal pass rewrote nothing. -/
theorem preserves : Cert.preserves_Out_OutIdeal := trivial

/-- The two results are the same function of arguments that agree. -/
theorem algebraic : Cert.algebraic_OutIdeal_OutRefIdeal := by
  intro m ρ m' ρ' _ hagree
  refine ⟨fun c => OutValue.G m c, ?_, ?_⟩
  · exact (θ_run Cert.OutIdeal.defs _ _).mono (fun _ h c => ⟨(h c).1.trans (OutValue.final m c), (h c).2⟩)
      (Cert.OutIdeal.Value.run_blocks (F := Ideal) m ρ)
  · refine (θ_run Cert.OutRefIdeal.defs _ _).mono (fun _ h c => ⟨(h c).1.trans ?_, (h c).2⟩)
      (Cert.OutRefIdeal.Value.run (F := Ideal) m' ρ')
    funext i
    obtain ⟨r, n, rfl⟩ : ∃ (r : Fin 16384) (n : Fin 2048), i = ix2 r n := ⟨i 0, i 1, by funext a; fin_cases a <;> rfl⟩
    rw [OutRef.ref_apply]
    obtain ⟨e0, e1, e2, e3, e4, e5, e6, e7, e8, e9, e10⟩ := hagree c
    rw [e0, e1, e2, e3, e4, e5, e6, e7, e8, e9, e10]
    rfl

end Cert.Proof.OutClaims

end
-- ==== Proof.InMath.lean ====
/- The mathematics of the input projection, over extended reals: the pre-norm, the projection and the rotary embedding of
   one row, and one tile of 1024 columns as the kernel writes it. -/
module

public import Idealize.ShloMosaic.Lib.Pointwise

@[expose] public section

noncomputable section

namespace Cert.Proof.InMath

open Idealize.ShloMosaic

/-- A row over its root mean square, times the norm's weights. -/
def normed (x g : Fin 2048 → EReal) (k : Fin 2048) : EReal :=
  x k * Ideal.rsqrt (Ideal.div (∑ k, x k * x k) (Ideal.ofBits FTy.f32 1157627904#32)
    + Ideal.ofBits FTy.f32 897988541#32) * g k

/-- The lane half a vector register away. -/
def at64 (l : Fin 128) : Fin 128 := ⟨(l.val + 64) % 128, Nat.mod_lt _ (by decide)⟩

/-- A tile of 1024 columns, of which the first `q` groups of 128 are rotated: each lane times its `c`, plus the lane 64
    away times its `s`. -/
def tile (q : Nat) (y : Fin 1024 → EReal) (c s : Fin 128 → EReal) (n : Fin 1024) : EReal :=
  if n.val / 128 < q then
    y n * c ⟨n.val % 128, Nat.mod_lt _ (by decide)⟩
      + y ⟨n.val / 128 * 128 + (n.val % 128 + 64) % 128, by omega⟩ * s ⟨n.val % 128, Nat.mod_lt _ (by decide)⟩
  else y n

/-- A lane of a rotated group. -/
theorem tile_rope (q p : Nat) (hp : p < q) (hp8 : p < 8) (y : Fin 1024 → EReal) (c s : Fin 128 → EReal) (l : Fin 128) :
    tile q y c s ⟨128 * p + l.val, by omega⟩
      = y ⟨128 * p + l.val, by omega⟩ * c l + y ⟨128 * p + (at64 l).val, by have := (at64 l).isLt; omega⟩ * s l := by
  have hl := l.isLt
  have e0 : (128 * p + l.val) / 128 = p := by omega
  have e1 : (128 * p + l.val) % 128 = l.val := by omega
  unfold tile
  rw [if_pos (show (128 * p + l.val) / 128 < q by omega)]
  congr 2
  · exact congrArg c (Fin.ext e1)
  · exact congrArg y (Fin.ext (by
      show (128 * p + l.val) / 128 * 128 + ((128 * p + l.val) % 128 + 64) % 128 = 128 * p + (l.val + 64) % 128
      rw [e0, e1, Nat.mul_comm]))
  · exact congrArg s (Fin.ext e1)

/-- A lane of a group that is not rotated. -/
theorem tile_plain (q p : Nat) (hp : q ≤ p) (hp8 : p < 8) (y : Fin 1024 → EReal) (c s : Fin 128 → EReal) (l : Fin 128) :
    tile q y c s ⟨128 * p + l.val, by omega⟩ = y ⟨128 * p + l.val, by omega⟩ := by
  have hl := l.isLt
  unfold tile
  rw [if_neg (show ¬ (128 * p + l.val) / 128 < q by omega)]

/-- A tile none of whose groups is rotated. -/
theorem tile_zero (y : Fin 1024 → EReal) (c s : Fin 128 → EReal) (n : Fin 1024) : tile 0 y c s n = y n := by
  unfold tile
  rw [if_neg (by omega)]

/-- The rotary embedding's angle at position `t` for the dimension pair `d`. -/
def angle (t d : Nat) : EReal :=
  FloatOps.sitofp (F := Ideal) FTy.f32 (BitVec.ofNat 32 t)
    * Ideal.div 1 (Ideal.pow (Ideal.ofBits FTy.f32 1176256512#32)
        (Ideal.div (Ideal.ofBits FTy.f32 1073741824#32 * FloatOps.sitofp (F := Ideal) FTy.f32 (BitVec.ofNat 32 d))
          (Ideal.ofBits FTy.f32 1115684864#32)))

/-- The first half of a rotated head: one column of it and the column of the second half. -/
def turnLo (t d : Nat) (a b : EReal) : EReal := a * Ideal.cos (angle t d) - b * Ideal.sin (angle t d)
/-- The second half: its column and the column of the first half. -/
def turnHi (t d : Nat) (a b : EReal) : EReal := a * Ideal.cos (angle t d) + b * Ideal.sin (angle t d)

/-- A projected row with the rotary embedding at position `t` on its columns below 1024 and from 4096 to 4735, whose groups
    of 128 hold the first halves of two heads and then their second halves. -/
def rotated (t : Nat) (y : Fin 6144 → EReal) (n : Fin 6144) : EReal :=
  if h : n.val < 1024 ∨ 4096 ≤ n.val ∧ n.val < 4736 then
    if h' : n.val % 128 < 64 then turnLo t (n.val % 32) (y n) (y ⟨n.val + 64, by omega⟩)
    else turnHi t (n.val % 32) (y n) (y ⟨n.val - 64, by omega⟩)
  else y n

/-- The input projection's result at one entry, of its rows, gains and weights. -/
def result (x0 : (⟨2, ![16384, 2048]⟩ : Shape).Idx → EReal) (x1 : (⟨1, ![2048]⟩ : Shape).Idx → EReal)
    (x2 : (⟨3, ![4, 6144, 2048]⟩ : Shape).Idx → EReal) (r : Fin 16384) (n : Fin 6144) : EReal :=
  rotated (r.val % 4096)
    (fun n => ∑ k, normed (fun k => x0 (ix2 r k)) (fun k => x1 (ix1 k)) k * x2 (ix3 (0 : Fin 4) n k)) n

/-- The kernel's tile `j` of 1024 columns, with the table of cosines repeated over the lanes and the table of sines negated
    in the first half of them, is the rotated row's. -/
theorem tile_rotated (t : Nat) (y : Fin 6144 → EReal) (j q : Nat) (hj : j < 6)
    (hq : q = if j = 0 then 8 else if j = 4 then 5 else 0) (c s : Fin 128 → EReal)
    (hc : ∀ l, c l = Ideal.cos (angle t (l.val % 32)))
    (hs : ∀ l, s l = if l.val < 64 then -Ideal.sin (angle t (l.val % 32)) else Ideal.sin (angle t (l.val % 32)))
    (n : Fin 1024) :
    tile q (fun n => y ⟨1024 * j + n.val, by omega⟩) c s n = rotated t y ⟨1024 * j + n.val, by omega⟩ := by
  have hn := n.isLt
  unfold tile rotated
  by_cases h : n.val / 128 < q
  · have h' : 1024 * j + n.val < 1024 ∨ 4096 ≤ 1024 * j + n.val ∧ 1024 * j + n.val < 4736 := by split_ifs at hq <;> omega
    have e : n.val % 128 % 32 = (1024 * j + n.val) % 32 := by omega
    rw [if_pos h, dif_pos h', hc, hs]
    dsimp only
    rw [e]
    by_cases h2 : n.val % 128 < 64
    · rw [if_pos h2, dif_pos (show (1024 * j + n.val) % 128 < 64 by omega), mul_neg, ← sub_eq_add_neg]
      unfold turnLo
      congr 3
      exact Fin.ext (by dsimp only; omega)
    · rw [if_neg h2, dif_neg (show ¬ (1024 * j + n.val) % 128 < 64 by omega)]
      unfold turnHi
      congr 3
      exact Fin.ext (by dsimp only; omega)
  · rw [if_neg h, dif_neg (by split_ifs at hq <;> dsimp only <;> omega)]

end Cert.Proof.InMath

end
-- ==== Proof.InKernel.lean ====
/- The kernel of the input projection, read at one entry of one block. -/
module

public import proofs.«01_k».proof.Proof.Gen.InIdeal.Value
public import proofs.«01_k».proof.Proof.InMath
public import Idealize.ShloMosaic.Lib.KernelVsHost

@[expose] public section

set_option maxRecDepth 16384

noncomputable section

namespace Cert.Proof.InKernel

open Cert.InIdeal Cert.InIdeal.Gen Cert.InIdeal.Value Idealize.ShloMosaic Idealize.ShloMosaic.TcCoe Idealize.SL.Sem InMath

theorem hz2 : (![0, 0] : Fin 2 → Nat) = fun _ => 0 := funext fun a => by fin_cases a <;> rfl
theorem hz3 : (![0, 0, 0] : Fin 3 → Nat) = fun _ => 0 := funext fun a => by fin_cases a <;> rfl

/-- The normed rows at one entry. -/
theorem pay1_apply (x : Vec Ideal S1024x2048 .f32) (g : Vec Ideal S1x2048 .f32) (r : Fin 1024) (k : Fin 2048) :
    k0_pay1 x g (ix2 r k) = normed (fun k => x (ix2 r k)) (fun k => g (ix2 (0 : Fin 1) k)) k := by
  pointwise [k0_pay1]
  rfl

/-- The projection of the block's rows at one entry. -/
theorem pay2_apply (h : Vec Ideal S1024x2048 .bf16) (w : Vec Ideal S1x1024x2048 .bf16) (r n : Fin 1024) :
    k0_pay2 h w (ix2 r n) = ∑ k : Fin 2048, h (ix2 r k) * w (ix3 (0 : Fin 1) n k) := by
  pointwise [k0_pay2]

/-- Rotating a register's 128 lanes by 64. -/
theorem rotate_apply (y : FVec Ideal S1024x128 .f32) (r : Fin 1024) (l : Fin 128) :
    dynamicRotate 1 64#32 none y rotates_S1024x128_d1 (ix2 r l) = y (ix2 r (at64 l)) := by
  refine dynamicRotate_apply _ _ _ _ _ _ fun b => ?_
  match b with
  | ⟨0, _⟩ => rfl
  | ⟨1, _⟩ => show (l.val + 64) % 128 = (l.val + 128 - 64 % 128) % 128; omega

/-- A rotated group of 128 columns at one entry. -/
theorem rope_apply (y : FVec Ideal S1024x1024 .f32) (v : FVec Ideal S1024x128 .f32) (o : Nat) (ho : o + 128 ≤ 1024)
    (hv : ∀ (r : Fin 1024) (l : Fin 128), v (ix2 r l) = y (ix2 r ⟨o + l.val, by omega⟩))
    (c s : Vec Ideal S1024x128 .f32) (r : Fin 1024) (l : Fin 128) :
    addf (mulf v c) (mulf (dynamicRotate 1 64#32 none v rotates_S1024x128_d1) s) (ix2 r l)
      = y (ix2 r ⟨o + l.val, by omega⟩) * c (ix2 r l)
        + y (ix2 r ⟨o + (at64 l).val, by have := (at64 l).isLt; omega⟩) * s (ix2 r l) := by
  show (v (ix2 r l) : EReal) * c (ix2 r l) + dynamicRotate 1 64#32 none v rotates_S1024x128_d1 (ix2 r l) * s (ix2 r l) = _
  rw [rotate_apply, hv, hv]

/-- A tile of the projection of the rows `h`. -/
def G (q : Nat) (h : Vec Ideal S1024x2048 .bf16) (w : Vec Ideal S1x1024x2048 .bf16) (co si : Vec Ideal S1024x128 .f32)
    (i : S1024x1024.Idx) : EReal :=
  tile q (fun n => ∑ k : Fin 2048, h (ix2 (i 0) k) * w (ix3 (0 : Fin 1) n k)) (fun l => co (ix2 (i 0) l))
    (fun l => si (ix2 (i 0) l)) (i 1)

/-- A rotated group, as a piece of the tile. -/
theorem piece_rope (q p : Nat) (hp : p < q) (hp8 : p < 8) (h : Vec Ideal S1024x2048 .bf16)
    (w : Vec Ideal S1x1024x2048 .bf16) (co si : Vec Ideal S1024x128 .f32) (v : FVec Ideal S1024x128 .f32) (o : Nat)
    (ho : o = 128 * p) (hs : S1024x1024.Slices ![0, o] S1024x128) (inb : ∀ a, (![0, o] : Fin 2 → Nat) a + ![1024, 128] a ≤ S1024x1024.size a)
    (hv : v = extractStridedSlice S1024x128 ![0, o] (k0_pay2 h w) hs) (x : S1024x128.Idx) :
    addf (mulf v co) (mulf (dynamicRotate 1 64#32 none v rotates_S1024x128_d1) si) x
      = G q h w co si ((Rect.unit (s := S1024x1024) ![0, o] ![1024, 128] inb).emb x) := by
  subst ho hv
  obtain ⟨r, l, rfl⟩ : ∃ (r : Fin 1024) (l : Fin 128), x = ix2 r l := ⟨x 0, x 1, eq_ix2 x⟩
  have e : (Rect.unit (s := S1024x1024) ![0, 128 * p] ![1024, 128] inb).emb (ix2 r l) = ix2 r (⟨128 * p + l.val, by omega⟩ : Fin 1024) := by
    funext a
    refine Fin.ext ?_
    match a with
    | ⟨0, _⟩ => show 0 + 1 * r.val = r.val; omega
    | ⟨1, _⟩ => show 128 * p + 1 * l.val = 128 * p + l.val; omega
  rw [e]
  refine (rope_apply (k0_pay2 h w) _ (128 * p) (by omega) (fun r l => ?_) co si r l).trans ?_
  · show k0_pay2 h w _ = _
    refine congrArg (k0_pay2 h w) (funext fun a => Fin.ext ?_)
    match a with
    | ⟨0, _⟩ => show 0 + r.val = r.val; omega
    | ⟨1, _⟩ => rfl
  · rw [pay2_apply, pay2_apply]
    exact (tile_rope q p hp hp8 (fun n => ∑ k : Fin 2048, h (ix2 r k) * w (ix3 (0 : Fin 1) n k)) (fun l => co (ix2 r l)) (fun l => si (ix2 r l)) l).symm

/-- A plain group, as a piece of the tile. -/
theorem piece_plain (q p : Nat) (hp : q ≤ p) (hp8 : p < 8) (h : Vec Ideal S1024x2048 .bf16)
    (w : Vec Ideal S1x1024x2048 .bf16) (co si : Vec Ideal S1024x128 .f32) (v : FVec Ideal S1024x128 .f32) (o : Nat)
    (ho : o = 128 * p) (hs : S1024x1024.Slices ![0, o] S1024x128) (inb : ∀ a, (![0, o] : Fin 2 → Nat) a + ![1024, 128] a ≤ S1024x1024.size a)
    (hv : v = extractStridedSlice S1024x128 ![0, o] (k0_pay2 h w) hs) (x : S1024x128.Idx) :
    v x = G q h w co si ((Rect.unit (s := S1024x1024) ![0, o] ![1024, 128] inb).emb x) := by
  subst ho hv
  obtain ⟨r, l, rfl⟩ : ∃ (r : Fin 1024) (l : Fin 128), x = ix2 r l := ⟨x 0, x 1, eq_ix2 x⟩
  have e : (Rect.unit (s := S1024x1024) ![0, 128 * p] ![1024, 128] inb).emb (ix2 r l) = ix2 r (⟨128 * p + l.val, by omega⟩ : Fin 1024) := by
    funext a
    refine Fin.ext ?_
    match a with
    | ⟨0, _⟩ => show 0 + 1 * r.val = r.val; omega
    | ⟨1, _⟩ => show 128 * p + 1 * l.val = 128 * p + l.val; omega
  rw [e]
  refine Eq.trans ?_ (tile_plain q p hp hp8 (fun n => ∑ k : Fin 2048, h (ix2 r k) * w (ix3 (0 : Fin 1) n k)) (fun l => co (ix2 r l)) (fun l => si (ix2 r l)) l).symm
  refine Eq.trans ?_ (pay2_apply h w r ⟨128 * p + l.val, by omega⟩)
  refine congrArg (k0_pay2 h w) (funext fun a => Fin.ext ?_)
  match a with
  | ⟨0, _⟩ => show 0 + r.val = r.val; omega
  | ⟨1, _⟩ => rfl

/-- What a grid point that rotates all its groups and computes its rows' norm itself writes. -/
theorem out_A (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S1x1024x2048 .bf16)
    (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x1024 .f32)
    (harg7 : arg7.IsWhole) (arg8 : Memref sig .tc .vmem S1024x2048 .bf16) (harg8 : arg8.IsWhole)
    (hc0 : cond0_0 i) (hc1 : cond0_1 i) (hc2 : ¬cond0_2 i) (hc3 : ¬cond0_3 i)
    (x0 : Vec Ideal S1024x2048 .f32) (x1 : Vec Ideal S1x2048 .f32) (x2 : Vec Ideal S1x1024x2048 .bf16)
    (x3 x4 : Vec Ideal S1024x128 .f32) :
    out0_A_5 c i arg2 harg2 arg3 harg3 arg4 harg4 arg5 harg5 arg6 harg6 arg7 harg7 arg8 harg8 hc0 hc1 hc2 hc3 x0 x1 x2 x3 x4
      = G 8 (k0_pay1 x0 x1) x2 x3 x4 := by
  unfold out0_A_5
  rw [View.read_writes_junk_eq_canon]
  funext y
  refine View.canon_apply_of_pieces _ _ ?_ y (cover0_A_5 c i arg2 harg2 arg3 harg3 arg4 harg4 arg5 harg5 arg6 harg6 arg7 harg7 arg8 harg8 hc0 hc1 hc2 hc3 x0 x1 x2 x3 x4 y)
  unfold kernelRun0_A
  simp only [kernelRun0_A.sl.v3, kernelRun0_A.sl.r, kernelRun0_A.sl.r_1, kernelRun0_A.sl.r_2, kernelRun0_A.sl.r_3, kernelRun0_A.sl.HS0_1, View.readAt_eq_ld,
    harg2.read_unread, harg3.read_unread, harg5.read_unread, harg6.read_unread, harg4.read_unread, View.ld_unit_zero (S := S1024x2048) hz2,
    View.ld_unit_zero (S := S1x2048) hz2, View.ld_unit_zero (S := S1024x128) hz2, View.ld_unit_zero (S := S1x1024x2048) hz3,
    View.readCov_unit_zero (S := S1024x2048) _ hz2]
  intro p hp
  simp only [List.mem_cons, List.not_mem_nil, or_false] at hp
  rcases hp with rfl | rfl | rfl | rfl | rfl | rfl | rfl | rfl
  · simp only [k0_pay5, k0_pay8, k0_pay9, shapeCast_self]; exact piece_rope 8 7 (by decide) (by decide) _ _ _ _ _ _ rfl _ _ rfl
  · simp only [k0_pay4, k0_pay8, k0_pay9, shapeCast_self]; exact piece_rope 8 6 (by decide) (by decide) _ _ _ _ _ _ rfl _ _ rfl
  · simp only [k0_pay3, k0_pay15, k0_pay16, k0_pay8, k0_pay9, shapeCast_self]; exact piece_rope 8 5 (by decide) (by decide) _ _ _ _ _ _ rfl _ _ rfl
  · simp only [k0_pay14, k0_pay8, k0_pay9, shapeCast_self]; exact piece_rope 8 4 (by decide) (by decide) _ _ _ _ _ _ rfl _ _ rfl
  · simp only [k0_pay13, k0_pay8, k0_pay9, shapeCast_self]; exact piece_rope 8 3 (by decide) (by decide) _ _ _ _ _ _ rfl _ _ rfl
  · simp only [k0_pay12, k0_pay8, k0_pay9, shapeCast_self]; exact piece_rope 8 2 (by decide) (by decide) _ _ _ _ _ _ rfl _ _ rfl
  · simp only [k0_pay11, k0_pay8, k0_pay9, shapeCast_self]; exact piece_rope 8 1 (by decide) (by decide) _ _ _ _ _ _ rfl _ _ rfl
  · simp only [k0_pay10, k0_pay8, k0_pay9, shapeCast_self]; exact piece_rope 8 0 (by decide) (by decide) _ _ _ _ _ _ rfl _ _ rfl

/-- What a grid point that rotates none writes. -/
theorem out_B (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S1x1024x2048 .bf16)
    (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x1024 .f32)
    (harg7 : arg7.IsWhole) (arg8 : Memref sig .tc .vmem S1024x2048 .bf16) (harg8 : arg8.IsWhole)
    (hc0 : ¬cond0_0 i) (hc1 : ¬cond0_1 i) (hc2 : ¬cond0_2 i) (hc3 : cond0_3 i)
    (x0 : Vec Ideal S1024x2048 .f32) (x1 : Vec Ideal S1x2048 .f32) (x2 : Vec Ideal S1x1024x2048 .bf16)
    (x3 x4 : Vec Ideal S1024x128 .f32) (xs0 : Vec Ideal S1024x2048 .bf16) :
    out0_B_5 c i arg2 harg2 arg3 harg3 arg4 harg4 arg5 harg5 arg6 harg6 arg7 harg7 arg8 harg8 hc0 hc1 hc2 hc3 x0 x1 x2 x3 x4 xs0
      = G 0 xs0 x2 x3 x4 := by
  unfold out0_B_5
  rw [View.read_writes_junk_eq_canon]
  funext y
  unfold kernelRun0_B
  dsimp only
  rw [View.canon_unit_zero hz2]
  simp only [View.readAt_eq_ld, harg8.read_unread, harg4.read_unread, View.ld_unit_zero (S := S1024x2048) hz2,
    View.ld_unit_zero (S := S1x2048) hz2, View.ld_unit_zero (S := S1024x128) hz2, View.ld_unit_zero (S := S1x1024x2048) hz3]
  obtain ⟨r, n, rfl⟩ : ∃ (r n : Fin 1024), y = ix2 r n := ⟨y 0, y 1, eq_ix2 y⟩
  rw [pay2_apply]
  exact (tile_zero (fun n => ∑ k : Fin 2048, xs0 (ix2 r k) * x2 (ix3 (0 : Fin 1) n k)) (fun l => x3 (ix2 r l)) (fun l => x4 (ix2 r l)) n).symm

/-- What a grid point that rotates five groups of eight writes. -/
theorem out_C (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S1x1024x2048 .bf16)
    (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x1024 .f32)
    (harg7 : arg7.IsWhole) (arg8 : Memref sig .tc .vmem S1024x2048 .bf16) (harg8 : arg8.IsWhole)
    (hc0 : ¬cond0_0 i) (hc1 : ¬cond0_1 i) (hc2 : cond0_2 i) (hc3 : ¬cond0_3 i)
    (x0 : Vec Ideal S1024x2048 .f32) (x1 : Vec Ideal S1x2048 .f32) (x2 : Vec Ideal S1x1024x2048 .bf16)
    (x3 x4 : Vec Ideal S1024x128 .f32) (xs0 : Vec Ideal S1024x2048 .bf16) :
    out0_C_5 c i arg2 harg2 arg3 harg3 arg4 harg4 arg5 harg5 arg6 harg6 arg7 harg7 arg8 harg8 hc0 hc1 hc2 hc3 x0 x1 x2 x3 x4 xs0
      = G 5 xs0 x2 x3 x4 := by
  unfold out0_C_5
  rw [View.read_writes_junk_eq_canon]
  funext y
  refine View.canon_apply_of_pieces _ _ ?_ y (cover0_C_5 c i arg2 harg2 arg3 harg3 arg4 harg4 arg5 harg5 arg6 harg6 arg7 harg7 arg8 harg8 hc0 hc1 hc2 hc3 x0 x1 x2 x3 x4 xs0 y)
  unfold kernelRun0_C
  simp only [kernelRun0_C.sl.r, View.readAt_eq_ld,
    harg8.read_unread, harg5.read_unread, harg6.read_unread, harg4.read_unread, View.ld_unit_zero (S := S1024x2048) hz2,
    View.ld_unit_zero (S := S1x2048) hz2, View.ld_unit_zero (S := S1024x128) hz2, View.ld_unit_zero (S := S1x1024x2048) hz3,
    View.readCov_unit_zero (S := S1024x2048) _ hz2]
  intro p hp
  simp only [List.mem_cons, List.not_mem_nil, or_false] at hp
  rcases hp with rfl | rfl | rfl | rfl | rfl | rfl | rfl | rfl
  · simp only [k0_pay7, shapeCast_self]; exact piece_plain 5 7 (by decide) (by decide) _ _ _ _ _ _ rfl _ _ rfl
  · simp only [k0_pay6, shapeCast_self]; exact piece_plain 5 6 (by decide) (by decide) _ _ _ _ _ _ rfl _ _ rfl
  · simp only [k0_pay24, shapeCast_self]; exact piece_plain 5 5 (by decide) (by decide) _ _ _ _ _ _ rfl _ _ rfl
  · simp only [k0_pay23, k0_pay17, k0_pay18, shapeCast_self]; exact piece_rope 5 4 (by decide) (by decide) _ _ _ _ _ _ rfl _ _ rfl
  · simp only [k0_pay22, k0_pay17, k0_pay18, shapeCast_self]; exact piece_rope 5 3 (by decide) (by decide) _ _ _ _ _ _ rfl _ _ rfl
  · simp only [k0_pay21, k0_pay17, k0_pay18, shapeCast_self]; exact piece_rope 5 2 (by decide) (by decide) _ _ _ _ _ _ rfl _ _ rfl
  · simp only [k0_pay20, k0_pay17, k0_pay18, shapeCast_self]; exact piece_rope 5 1 (by decide) (by decide) _ _ _ _ _ _ rfl _ _ rfl
  · simp only [k0_pay19, k0_pay17, k0_pay18, shapeCast_self]; exact piece_rope 5 0 (by decide) (by decide) _ _ _ _ _ _ rfl _ _ rfl

/-- What the first grid point of a block of rows leaves in the carried buffer: the rows' norm. -/
theorem scratch_A (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S1x1024x2048 .bf16)
    (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x1024 .f32)
    (harg7 : arg7.IsWhole) (arg8 : Memref sig .tc .vmem S1024x2048 .bf16) (harg8 : arg8.IsWhole)
    (hc0 : cond0_0 i) (hc1 : cond0_1 i) (hc2 : ¬cond0_2 i) (hc3 : ¬cond0_3 i)
    (x0 : Vec Ideal S1024x2048 .f32) (x1 : Vec Ideal S1x2048 .f32) (x2 : Vec Ideal S1x1024x2048 .bf16)
    (x3 x4 : Vec Ideal S1024x128 .f32) :
    sout0_A_0 c i arg2 harg2 arg3 harg3 arg4 harg4 arg5 harg5 arg6 harg6 arg7 harg7 arg8 harg8 hc0 hc1 hc2 hc3 x0 x1 x2 x3 x4
      = k0_pay1 x0 x1 := by
  unfold sout0_A_0
  rw [View.read_writes_junk_eq_canon]
  unfold kernelRun0_A
  dsimp only
  unfold kernelRun0_A.sl.HS0_1
  rw [View.canon_unit_zero hz2]
  simp only [View.readAt_eq_ld, harg2.read_unread, harg3.read_unread, View.ld_unit_zero (S := S1024x2048) hz2,
    View.ld_unit_zero (S := S1x2048) hz2]

end Cert.Proof.InKernel

end
-- ==== Proof.InValue.lean ====
/- The input projection's result array. The launch has 96 points, 16 blocks of rows by six tiles of columns, the columns
   innermost: the first point of a block of rows leaves the rows' norm in a carried buffer and the other five read it. So
   every entry is `InMath.result` of the arguments. -/
module

public import proofs.«01_k».proof.Proof.InKernel
public import Idealize.ShloMosaic.Lib.StableHlo.ReadAt

@[expose] public section

set_option maxRecDepth 16384

noncomputable section

namespace Cert.Proof.InValue

open Cert.InIdeal Cert.InIdeal.Gen Cert.InIdeal.Value Idealize.ShloMosaic Idealize.ShloMosaic.TcCoe Idealize.SL.Sem InMath InKernel

variable (m : (ℓ : Loc nD τ sig) → Buf (Elt Ideal) ℓ) (ρ : Dev nD → PrngReg)

/-! ## What the host lines before the launch have written -/

/-- The norm's gain as a one-row array. -/
theorem gain (c : Dev nD) (k : Fin 2048) :
    V m c main_v23 (ix2 (0 : Fin 1) k) = m ((c.tc : Thread nD τ).loc main_arg1) (ix1 k) := by
  unfold V; after_reads_at

/-- The table of cosines, repeated over the lanes. -/
theorem cos_table (c : Dev nD) (t : Fin 4096) (l : Fin 128) :
    V m c main_v19 (ix2 t l) = Ideal.cos (angle t.val (l.val % 32)) := by
  have hl := l.isLt
  unfold V
  after_reads_at
  by_cases h0 : l.val < 32
  · rw [dif_pos h0, show l.val % 32 = l.val by omega]
    after_reads_at
    rfl
  · by_cases h1 : l.val - 32 < 32
    · rw [dif_neg h0, dif_pos h1, show l.val % 32 = l.val - 32 by omega]
      after_reads_at
      rfl
    · by_cases h2 : l.val - 32 - 32 < 32
      · rw [dif_neg h0, dif_neg h1, dif_pos h2, show l.val % 32 = l.val - 32 - 32 by omega]
        after_reads_at
        rfl
      · rw [dif_neg h0, dif_neg h1, dif_neg h2, show l.val % 32 = l.val - 32 - 32 - 32 by omega]
        after_reads_at
        rfl

/-- The table of sines, repeated over the lanes and negated in the first half of them. -/
theorem sin_table (c : Dev nD) (t : Fin 4096) (l : Fin 128) :
    V m c main_v22 (ix2 t l)
      = if l.val < 64 then -Ideal.sin (angle t.val (l.val % 32)) else Ideal.sin (angle t.val (l.val % 32)) := by
  have hl := l.isLt
  unfold V
  after_reads_at
  by_cases h0 : l.val < 32
  · rw [dif_pos h0, show l.val % 32 = l.val by omega, if_pos (show l.val < 64 by omega)]
    after_reads_at
    rfl
  · by_cases h1 : l.val - 32 < 32
    · rw [dif_neg h0, dif_pos h1, show l.val % 32 = l.val - 32 by omega, if_pos (show l.val < 64 by omega)]
      after_reads_at
      rfl
    · by_cases h2 : l.val - 32 - 32 < 32
      · rw [dif_neg h0, dif_neg h1, dif_pos h2, show l.val % 32 = l.val - 32 - 32 by omega, if_neg (show ¬ l.val < 64 by omega)]
        after_reads_at
        rfl
      · rw [dif_neg h0, dif_neg h1, dif_neg h2, show l.val % 32 = l.val - 32 - 32 - 32 by omega, if_neg (show ¬ l.val < 64 by omega)]
        after_reads_at
        rfl

/-! ## Each window's block in its array -/

/-- The rows: block row `r` of point `t` is row `1024 (t / 6) + r`. -/
theorem blk0 (c : Dev nD) (t : Fin cfg0.N) (r : Fin 1024) (k : Fin 2048) (R : Fin 16384) (hR : R.val = 1024 * (t.val / 6) + r.val) :
    iblk m c 0 t (ix2 r k) = m ((c.tc : Thread nD τ).loc main_arg0) (ix2 R k) := by
  rw [← V_main_arg0 m c]
  show V m c main_arg0 (((cfg0.win 0).blk t).view.emb (ix2 r k)) = _
  obtain ⟨e0, e1⟩ := (by decide +kernel : ∀ t : Fin grid0.N,
    win0_0.index t (0 : Fin 2) = t.val / 6 ∧ win0_0.index t (1 : Fin 2) = 0) t
  refine congrArg _ (funext fun a => Fin.ext ?_)
  match a with
  | ⟨0, _⟩ => show win0_0.index t (0 : Fin 2) * 1024 + 1 * r.val = R.val; omega
  | ⟨1, _⟩ => show win0_0.index t (1 : Fin 2) * 2048 + 1 * k.val = k.val; omega

/-- The gain. -/
theorem blk1 (c : Dev nD) (t : Fin cfg0.N) (k : Fin 2048) :
    iblk m c 1 t (ix2 (0 : Fin 1) k) = m ((c.tc : Thread nD τ).loc main_arg1) (ix1 k) := by
  refine Eq.trans ?_ (gain m c k)
  show V m c main_v23 (((cfg0.win 1).blk t).view.emb (ix2 (0 : Fin 1) k)) = _
  obtain ⟨e0, e1⟩ := (by decide +kernel : ∀ t : Fin grid0.N,
    win0_1.index t (0 : Fin 2) = 0 ∧ win0_1.index t (1 : Fin 2) = 0) t
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- The weights of the first layer: row `n` of point `t`'s tile is row `1024 (t % 6) + n`. -/
theorem blk2 (c : Dev nD) (t : Fin cfg0.N) (n : Fin 1024) (k : Fin 2048) (N : Fin 6144) (hN : N.val = 1024 * (t.val % 6) + n.val) :
    iblk m c 2 t (ix3 (0 : Fin 1) n k) = m ((c.tc : Thread nD τ).loc main_arg2) (ix3 (0 : Fin 4) N k) := by
  rw [← V_main_arg2 m c]
  show V m c main_arg2 (((cfg0.win 2).blk t).view.emb (ix3 (0 : Fin 1) n k)) = _
  obtain ⟨e0, e1, e2⟩ := (by decide +kernel : ∀ t : Fin grid0.N,
    win0_2.index t (0 : Fin 3) = 0 ∧ win0_2.index t (1 : Fin 3) = t.val % 6 ∧ win0_2.index t (2 : Fin 3) = 0) t
  refine congrArg _ (funext fun a => Fin.ext ?_)
  match a with
  | ⟨0, _⟩ => show win0_2.index t (0 : Fin 3) * 1 + 1 * 0 = 0; omega
  | ⟨1, _⟩ => show win0_2.index t (1 : Fin 3) * 1024 + 1 * n.val = N.val; omega
  | ⟨2, _⟩ => show win0_2.index t (2 : Fin 3) * 2048 + 1 * k.val = k.val; omega

/-- The table of cosines: block row `r` of point `t` is the position of row `1024 (t / 6) + r` in its sequence. -/
theorem blk3 (c : Dev nD) (t : Fin cfg0.N) (r : Fin 1024) (l : Fin 128) (R : Fin 16384) (hR : R.val = 1024 * (t.val / 6) + r.val) :
    iblk m c 3 t (ix2 r l) = Ideal.cos (angle (R.val % 4096) (l.val % 32)) := by
  refine Eq.trans ?_ (cos_table m c (⟨R.val % 4096, Nat.mod_lt _ (by decide)⟩ : Fin 4096) l)
  show V m c main_v19 (((cfg0.win 3).blk t).view.emb (ix2 r l)) = _
  obtain ⟨e0, e1⟩ := (by decide +kernel : ∀ t : Fin grid0.N,
    win0_3.index t (0 : Fin 2) = t.val / 6 % 4 ∧ win0_3.index t (1 : Fin 2) = 0) t
  refine congrArg _ (funext fun a => Fin.ext ?_)
  match a with
  | ⟨0, _⟩ => show win0_3.index t (0 : Fin 2) * 1024 + 1 * r.val = R.val % 4096; omega
  | ⟨1, _⟩ => show win0_3.index t (1 : Fin 2) * 128 + 1 * l.val = l.val; omega

/-- The table of sines, at the same rows. -/
theorem blk4 (c : Dev nD) (t : Fin cfg0.N) (r : Fin 1024) (l : Fin 128) (R : Fin 16384) (hR : R.val = 1024 * (t.val / 6) + r.val) :
    iblk m c 4 t (ix2 r l)
      = if l.val < 64 then -Ideal.sin (angle (R.val % 4096) (l.val % 32)) else Ideal.sin (angle (R.val % 4096) (l.val % 32)) := by
  refine Eq.trans ?_ (sin_table m c (⟨R.val % 4096, Nat.mod_lt _ (by decide)⟩ : Fin 4096) l)
  show V m c main_v22 (((cfg0.win 4).blk t).view.emb (ix2 r l)) = _
  obtain ⟨e0, e1⟩ := (by decide +kernel : ∀ t : Fin grid0.N,
    win0_4.index t (0 : Fin 2) = t.val / 6 % 4 ∧ win0_4.index t (1 : Fin 2) = 0) t
  refine congrArg _ (funext fun a => Fin.ext ?_)
  match a with
  | ⟨0, _⟩ => show win0_4.index t (0 : Fin 2) * 1024 + 1 * r.val = R.val % 4096; omega
  | ⟨1, _⟩ => show win0_4.index t (1 : Fin 2) * 128 + 1 * l.val = l.val; omega

/-! ## The carried buffer -/

/-- A row's norm at point `t`, read from the arguments. -/
def normedRow (c : Dev nD) (R : Fin 16384) : Fin 2048 → EReal :=
  normed (fun k => m ((c.tc : Thread nD τ).loc main_arg0) (ix2 R k)) (fun k => m ((c.tc : Thread nD τ).loc main_arg1) (ix1 k))

/-- The norm of point `t`'s rows. -/
theorem pay1_blk (c : Dev nD) (t : Fin cfg0.N) (r : Fin 1024) (k : Fin 2048) (R : Fin 16384) (hR : R.val = 1024 * (t.val / 6) + r.val) :
    k0_pay1 (F := Ideal) (iblk m c 0 t) (iblk m c 1 t) (ix2 r k) = normedRow m c R k := by
  rw [pay1_apply]
  unfold normedRow
  simp only [blk0 m c t r _ R hR, blk1 m c t]

/-- After every point the carried buffer holds the norm of the point's rows. -/
theorem carried (c : Dev nD) : ∀ (n : ℕ) (hn : n < cfg0.N) (r : Fin 1024) (k : Fin 2048) (R : Fin 16384)
    (_ : R.val = 1024 * (n / 6) + r.val), (outsAt0 m c n hn).2 (ix2 r k) = normedRow m c R k := by
  intro n
  induction n with
  | zero =>
    intro hn r k R hR
    rw [outsAt0_A m c ⟨0, hn⟩ (Nat.zero_mod _) (Nat.zero_mod _) (by show ¬ 0 % 6 = 4; omega) (by show ¬¬(0 % 6 = 0 ∨ 0 % 6 = 4); omega)]
    dsimp only
    rw [scratch_A]
    exact pay1_blk m c _ r k R hR
  | succ n ih =>
    intro hn r k R hR
    have hn' : n < cfg0.N := Nat.lt_of_succ_lt hn
    by_cases h0 : (n + 1) % 6 = 0
    · rw [outsAt0_A m c ⟨n + 1, hn⟩ h0 h0 (by show ¬ (n + 1) % 6 = 4; omega) (by show ¬¬((n + 1) % 6 = 0 ∨ (n + 1) % 6 = 4); omega)]
      dsimp only
      rw [scratch_A]
      exact pay1_blk m c _ r k R hR
    · by_cases h4 : (n + 1) % 6 = 4
      · rw [outsAt0_C m c ⟨n + 1, hn⟩ h0 h0 h4 (by show ¬¬((n + 1) % 6 = 0 ∨ (n + 1) % 6 = 4); omega)]
        exact ih hn' r k R (by omega)
      · rw [outsAt0_B m c ⟨n + 1, hn⟩ h0 h0 h4 (by show ¬((n + 1) % 6 = 0 ∨ (n + 1) % 6 = 4); omega)]
        exact ih hn' r k R (by omega)

/-! ## The result array -/

/-- The result array: `InMath.result` of the arguments at each entry. -/
def G (c : Dev nD) : Vec Ideal S16384x6144 .f32 := fun i =>
  result (m ((c.tc : Thread nD τ).loc main_arg0)) (m ((c.tc : Thread nD τ).loc main_arg1)) (m ((c.tc : Thread nD τ).loc main_arg2)) (i 0) (i 1)

/-- A tile of the point's normed rows is the result's. -/
theorem tile_eq (c : Dev nD) (t : Fin cfg0.N) (q : Nat) (hq : q = if t.val % 6 = 0 then 8 else if t.val % 6 = 4 then 5 else 0)
    (h : Vec Ideal S1024x2048 .bf16) (r n : Fin 1024) (R : Fin 16384) (hR : R.val = 1024 * (t.val / 6) + r.val)
    (N : Fin 6144) (hN : N.val = 1024 * (t.val % 6) + n.val)
    (hh : ∀ k, h (ix2 r k) = normedRow m c R k) :
    InKernel.G q h (iblk m c 2 t) (iblk m c 3 t) (iblk m c 4 t) (ix2 r n) = G m c (ix2 R N) := by
  have e := tile_rotated (R.val % 4096)
    (fun N => ∑ k, normedRow m c R k * m ((c.tc : Thread nD τ).loc main_arg2) (ix3 (0 : Fin 4) N k)) (t.val % 6) q
    (Nat.mod_lt _ (by decide)) hq (fun l => iblk m c 3 t (ix2 r l)) (fun l => iblk m c 4 t (ix2 r l))
    (fun l => blk3 m c t r l R hR) (fun l => blk4 m c t r l R hR) n
  have hf : (⟨1024 * (t.val % 6) + n.val, by omega⟩ : Fin 6144) = N := Fin.ext hN.symm
  rw [hf] at e
  refine Eq.trans ?_ e
  show tile q _ _ _ n = _
  congr 1
  funext n
  exact Finset.sum_congr rfl fun k _ => by
    show h (ix2 r k) * iblk m c 2 t (ix3 (0 : Fin 1) n k) = _
    rw [hh, blk2 m c t n k ⟨1024 * (t.val % 6) + n.val, by omega⟩ rfl]

/-- What a point writes back is its block of `G`. -/
theorem flushed_eq (c : Dev nD) (t : Fin cfg0.N) :
    (dats m 0 c).flushed 5 t = ((cfg0.win 5).blk t).view.read (Elt Ideal) (G m c) := by
  have ht : t.val < 96 := lt_of_lt_of_eq t.isLt Gen.N_0
  obtain ⟨e0, e1⟩ := (by decide +kernel : ∀ t : Fin grid0.N,
    win0_5.index t (0 : Fin 2) = t.val / 6 ∧ win0_5.index t (1 : Fin 2) = t.val % 6) t
  have hemb (r n : Fin 1024) : ((cfg0.win 5).blk t).view.emb (ix2 r n)
      = ix2 (⟨1024 * (t.val / 6) + r.val, by omega⟩ : Fin 16384) (⟨1024 * (t.val % 6) + n.val, by omega⟩ : Fin 6144) := by
    refine funext fun a => Fin.ext ?_
    match a with
    | ⟨0, _⟩ => show win0_5.index t (0 : Fin 2) * 1024 + 1 * r.val = 1024 * (t.val / 6) + r.val; omega
    | ⟨1, _⟩ => show win0_5.index t (1 : Fin 2) * 1024 + 1 * n.val = 1024 * (t.val % 6) + n.val; omega
  have key (q : Nat) (hq : q = if t.val % 6 = 0 then 8 else if t.val % 6 = 4 then 5 else 0) (h : Vec Ideal S1024x2048 .bf16)
      (hh : ∀ (r : Fin 1024) k, h (ix2 r k) = normedRow m c (⟨1024 * (t.val / 6) + r.val, by omega⟩ : Fin 16384) k) :
      InKernel.G q h (iblk m c 2 t) (iblk m c 3 t) (iblk m c 4 t) = ((cfg0.win 5).blk t).view.read (Elt Ideal) (G m c) := by
    funext j
    obtain ⟨r, n, rfl⟩ : ∃ r n : Fin 1024, j = ix2 r n := ⟨j 0, j 1, by funext a; fin_cases a <;> rfl⟩
    show _ = G m c (((cfg0.win 5).blk t).view.emb (ix2 r n))
    rw [hemb]
    exact tile_eq m c t q hq h r n _ rfl _ rfl (hh r)
  by_cases h0 : t.val % 6 = 0
  · rw [flushed5_A m c t h0 h0 (by omega) (by omega), out_A]
    exact key 8 (by rw [if_pos h0]) _ fun r k => pay1_blk m c t r k _ rfl
  · have hh (r : Fin 1024) (k : Fin 2048) : (outsAt0 m c (t.val - 1) (Nat.lt_of_le_of_lt (Nat.sub_le _ _) t.isLt)).2 (ix2 r k)
        = normedRow m c (⟨1024 * (t.val / 6) + r.val, by omega⟩ : Fin 16384) k :=
      carried m c (t.val - 1) _ r k _ (by show 1024 * (t.val / 6) + r.val = _; omega)
    by_cases h4 : t.val % 6 = 4
    · rw [flushed5_C m c t h0 h0 h4 (by omega), out_C]
      exact key 5 (by rw [if_neg h0, if_pos h4]) _ hh
    · rw [flushed5_B m c t h0 h0 h4 (by omega), out_B]
      exact key 0 (by rw [if_neg h0, if_neg h4]) _ hh

/-- Every entry of the result is in the block of the point of its rows and columns. -/
theorem covered (i : S16384x6144.Idx) :
    ∃ t : Fin cfg0.N, (cfg0.win 5).flush t = true ∧ i ∈ ((cfg0.win 5).blk t).view.set := by
  have h0 : (i 0).val < 16384 := (i 0).isLt
  have h1 : (i 1).val < 6144 := (i 1).isLt
  obtain ⟨t, ht⟩ : ∃ t : Fin cfg0.N, t.val = 6 * ((i 0).val / 1024) + (i 1).val / 1024 :=
    ⟨⟨6 * ((i 0).val / 1024) + (i 1).val / 1024, by show _ < grid0.N; rw [Gen.N_0]; omega⟩, rfl⟩
  refine ⟨t, flush0_5 t, ?_⟩
  obtain ⟨e0, e1⟩ := (by decide +kernel : ∀ t : Fin grid0.N,
    win0_5.index t (0 : Fin 2) = t.val / 6 ∧ win0_5.index t (1 : Fin 2) = t.val % 6) t
  show i ∈ ((View.whole main_v24).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

/-- The result array after the run. -/
theorem final (c : Dev nD) : (dats m 0 c).arrAt 5 cfg0.N = G m c :=
  (dats m 0 c).arrAt_eq_of_cover 5 (G m c) (fun t _ => flushed_eq m c t) covered

end Cert.Proof.InValue

end
-- ==== Proof.InRef.lean ====
/- The plain program of the input projection, read at one entry. -/
module

public import proofs.«01_k».proof.Proof.Gen.InRefIdeal.Run
public import proofs.«01_k».proof.Proof.InMath
public import Idealize.ShloMosaic.Lib.Tactic.CleanTypes

@[expose] public section

set_option maxRecDepth 16384

noncomputable section

namespace Cert.Proof.InRef

open Cert.InRefIdeal Cert.InRefIdeal.Gen Cert.InRefIdeal.Value Idealize.ShloMosaic Idealize.ShloMosaic.TcCoe Idealize.SL.Sem InMath

/-- The normed rows against the weights. -/
def proj (x0 : FVec Ideal S16384x2048 .f32) (x1 : FVec Ideal S2048 .f32) (x2 : FVec Ideal S4x6144x2048 .bf16) :
    FVec Ideal S16384x6144 .f32 :=
  Host.dotGeneral dot_S16384x2048_S2048x6144_S16384x6144_1_0_0_1_n_n none
    (mulf (mulf x0 (broadcastInDim S16384x2048 ![0, 1] bcast_S16384x1_S16384x2048_0_1 (Host.rsqrt (addf (Host.divf
      (broadcastInDim S16384x1 ![0] bcast_S16384_S16384x1_0 (Host.reduceAdd (mulf x0 x0) (constant S_ .f32 0x00000000#32)
        reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 x1)))
    (transpose S2048x6144 [1, 0] (extf .f32 (shapeCast _ (extractStridedSlice S1x6144x2048 ![0, 0, 0] x2
      slices_S4x6144x2048_S1x6144x2048_0_0_0) shapeCasts_S1x6144x2048_S6144x2048) bitsLt_bf16_f32)
      transposes_S6144x2048_S2048x6144_1_0)

/-- … at an entry. -/
theorem proj_apply (x0 : FVec Ideal S16384x2048 .f32) (x1 : FVec Ideal S2048 .f32) (x2 : FVec Ideal S4x6144x2048 .bf16)
    (r : Fin 16384) (n : Fin 6144) :
    proj x0 x1 x2 (ix2 r n)
      = ∑ k, normed (fun k => x0 (ix2 r k)) (fun k => x1 (ix1 k)) k * x2 (ix3 (0 : Fin 4) n k) := by
  unfold proj
  pointwise
  rfl

/-- The rotary embedding's angles. -/
def angles : FVec Ideal S4096x32 .f32 :=
  mulf (broadcastInDim S4096x32 ![0, 1] bcast_S4096x1_S4096x32_0_1 (broadcastInDim S4096x1 ![0] bcast_S4096_S4096x1_0
      (sitofp .f32 (iotaInDim S4096 32 0))))
    (broadcastInDim S4096x32 ![0, 1] bcast_S1x32_S4096x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- … at an entry. -/
theorem angles_apply (t : Fin 4096) (d : Fin 32) : angles (ix2 t d) = angle t.val d.val := by
  unfold angles
  pointwise
  rfl

/-! ## 16 heads -/

/-- 1024 columns taken apart into 16 heads. -/
def heads16 (y : FVec Ideal S4x4096x1024 .f32) : FVec Ideal S4x4096x16x64 .f32 :=
  shapeCast _ (transpose S4x4096x8x2x2x32 [0, 1, 2, 4, 3, 5] (shapeCast _ y shapeCasts_S4x4096x1024_S4x4096x8x2x2x32)
    transposes_S4x4096x8x2x2x32_S4x4096x8x2x2x32_0_1_2_4_3_5) shapeCasts_S4x4096x8x2x2x32_S4x4096x16x64

/-- The 16 heads put back. -/
def columns16 (y : FVec Ideal S4x4096x16x64 .f32) : FVec Ideal S4x4096x1024 .f32 :=
  shapeCast _ (transpose S4x4096x8x2x2x32 [0, 1, 2, 4, 3, 5] (shapeCast _ y shapeCasts_S4x4096x16x64_S4x4096x8x2x2x32)
    transposes_S4x4096x8x2x2x32_S4x4096x8x2x2x32_0_1_2_4_3_5) shapeCasts_S4x4096x8x2x2x32_S4x4096x1024

/-- A table of one number for each position and dimension pair, over the batches and heads. -/
def table16 (v : FVec Ideal S4096x32 .f32) : FVec Ideal S4x4096x16x32 .f32 :=
  broadcastInDim S4x4096x16x32 ![0, 1, 2, 3] bcast_S1x4096x1x32_S4x4096x16x32_0_1_2_3
    (broadcastInDim S1x4096x1x32 ![1, 3] bcast_S4096x32_S1x4096x1x32_1_3 v)

/-- The two halves of each head turned. -/
def rope16 (y : FVec Ideal S4x4096x16x64 .f32) (co si : FVec Ideal S4096x32 .f32) : FVec Ideal S4x4096x16x64 .f32 :=
  concatenate S4x4096x16x64 3 [
    ⟨S4x4096x16x32, subf (mulf (extractStridedSlice S4x4096x16x32 ![0, 0, 0, 0] y slices_S4x4096x16x64_S4x4096x16x32_0_0_0_0) (table16 co))
      (mulf (extractStridedSlice S4x4096x16x32 ![0, 0, 0, 32] y slices_S4x4096x16x64_S4x4096x16x32_0_0_0_32) (table16 si))⟩,
    ⟨S4x4096x16x32, addf (mulf (extractStridedSlice S4x4096x16x32 ![0, 0, 0, 32] y slices_S4x4096x16x64_S4x4096x16x32_0_0_0_32) (table16 co))
      (mulf (extractStridedSlice S4x4096x16x32 ![0, 0, 0, 0] y slices_S4x4096x16x64_S4x4096x16x32_0_0_0_0) (table16 si))⟩]
    concatenates_S4x4096x16x32_S4x4096x16x32_S4x4096x16x64_d3

/-- Head `h`'s entry `d` is in the columns at: its pair's 128, its half's 64, its own 32 of them. -/
theorem heads16_apply (y : FVec Ideal S4x4096x1024 .f32) (b : Fin 4) (t : Fin 4096) (h : Fin 16) (d : Fin 64) :
    heads16 y (ix4 b t h d)
      = y (ix3 b t (⟨h.val / 2 * 128 + d.val / 32 * 64 + h.val % 2 * 32 + d.val % 32, by omega⟩ : Fin 1024)) := by
  unfold heads16
  pointwise

/-- The other way around. -/
theorem columns16_apply (y : FVec Ideal S4x4096x16x64 .f32) (b : Fin 4) (t : Fin 4096) (n : Fin 1024) :
    columns16 y (ix3 b t n)
      = y (ix4 b t (⟨n.val / 128 * 2 + n.val / 32 % 2, by omega⟩ : Fin 16) (⟨n.val / 64 % 2 * 32 + n.val % 32, by omega⟩ : Fin 64)) := by
  unfold columns16
  pointwise

/-- … so at a column of the pair, half, head and place they say. -/
theorem heads16_at (y : FVec Ideal S4x4096x1024 .f32) (b : Fin 4) (t : Fin 4096) (h : Fin 16) (d : Fin 64) (n : Fin 1024)
    (hn : n.val = h.val / 2 * 128 + d.val / 32 * 64 + h.val % 2 * 32 + d.val % 32) :
    heads16 y (ix4 b t h d) = y (ix3 b t n) :=
  (heads16_apply y b t h d).trans (congrArg (fun n => y (ix3 b t n)) (Fin.ext hn.symm))

theorem table16_cos (b : Fin 4) (t : Fin 4096) (h : Fin 16) (d : Fin 32) :
    table16 (Host.cos angles) (ix4 b t h d) = Ideal.cos (angle t.val d.val) := by
  unfold table16
  pointwise
  rw [angles_apply]

theorem table16_sin (b : Fin 4) (t : Fin 4096) (h : Fin 16) (d : Fin 32) :
    table16 (Host.sin angles) (ix4 b t h d) = Ideal.sin (angle t.val d.val) := by
  unfold table16
  pointwise
  rw [angles_apply]

/-- The turned columns: in a first half, and in a second. -/
theorem turn16_lo (y : FVec Ideal S4x4096x1024 .f32) (b : Fin 4) (t : Fin 4096) (n : Fin 1024) (h : n.val % 128 < 64) :
    columns16 (rope16 (heads16 y) (Host.cos angles) (Host.sin angles)) (ix3 b t n)
      = turnLo t.val (n.val % 32) (y (ix3 b t n)) (y (ix3 b t (⟨n.val + 64, by omega⟩ : Fin 1024))) := by
  have hn := n.isLt
  have e : n.val / 64 % 2 * 32 + n.val % 32 = n.val % 32 := by omega
  rw [columns16_apply]
  unfold rope16
  pointwise
  rw [dif_pos (by omega), heads16_at y b t _ _ n (by dsimp only; omega),
    heads16_at y b t _ _ ⟨n.val + 64, by omega⟩ (by dsimp only; omega), table16_cos, table16_sin]
  unfold turnLo
  dsimp only
  rw [e]

theorem turn16_hi (y : FVec Ideal S4x4096x1024 .f32) (b : Fin 4) (t : Fin 4096) (n : Fin 1024) (h : ¬ n.val % 128 < 64) :
    columns16 (rope16 (heads16 y) (Host.cos angles) (Host.sin angles)) (ix3 b t n)
      = turnHi t.val (n.val % 32) (y (ix3 b t n)) (y (ix3 b t (⟨n.val - 64, by omega⟩ : Fin 1024))) := by
  have hn := n.isLt
  have e : n.val / 64 % 2 * 32 + n.val % 32 - 32 = n.val % 32 := by omega
  rw [columns16_apply]
  unfold rope16
  pointwise
  rw [dif_neg (by omega), heads16_at y b t _ _ n (by dsimp only; omega),
    heads16_at y b t _ _ ⟨n.val - 64, by omega⟩ (by dsimp only; omega), table16_cos, table16_sin]
  unfold turnHi
  dsimp only
  rw [e]

/-! ## 10 heads -/

/-- 640 columns taken apart into 10 heads. -/
def heads10 (y : FVec Ideal S4x4096x640 .f32) : FVec Ideal S4x4096x10x64 .f32 :=
  shapeCast _ (transpose S4x4096x5x2x2x32 [0, 1, 2, 4, 3, 5] (shapeCast _ y shapeCasts_S4x4096x640_S4x4096x5x2x2x32)
    transposes_S4x4096x5x2x2x32_S4x4096x5x2x2x32_0_1_2_4_3_5) shapeCasts_S4x4096x5x2x2x32_S4x4096x10x64

/-- The 10 heads put back. -/
def columns10 (y : FVec Ideal S4x4096x10x64 .f32) : FVec Ideal S4x4096x640 .f32 :=
  shapeCast _ (transpose S4x4096x5x2x2x32 [0, 1, 2, 4, 3, 5] (shapeCast _ y shapeCasts_S4x4096x10x64_S4x4096x5x2x2x32)
    transposes_S4x4096x5x2x2x32_S4x4096x5x2x2x32_0_1_2_4_3_5) shapeCasts_S4x4096x5x2x2x32_S4x4096x640

/-- A table of one number for each position and dimension pair, over the batches and heads. -/
def table10 (v : FVec Ideal S4096x32 .f32) : FVec Ideal S4x4096x10x32 .f32 :=
  broadcastInDim S4x4096x10x32 ![0, 1, 2, 3] bcast_S1x4096x1x32_S4x4096x10x32_0_1_2_3
    (broadcastInDim S1x4096x1x32 ![1, 3] bcast_S4096x32_S1x4096x1x32_1_3 v)

/-- The two halves of each head turned. -/
def rope10 (y : FVec Ideal S4x4096x10x64 .f32) (co si : FVec Ideal S4096x32 .f32) : FVec Ideal S4x4096x10x64 .f32 :=
  concatenate S4x4096x10x64 3 [
    ⟨S4x4096x10x32, subf (mulf (extractStridedSlice S4x4096x10x32 ![0, 0, 0, 0] y slices_S4x4096x10x64_S4x4096x10x32_0_0_0_0) (table10 co))
      (mulf (extractStridedSlice S4x4096x10x32 ![0, 0, 0, 32] y slices_S4x4096x10x64_S4x4096x10x32_0_0_0_32) (table10 si))⟩,
    ⟨S4x4096x10x32, addf (mulf (extractStridedSlice S4x4096x10x32 ![0, 0, 0, 32] y slices_S4x4096x10x64_S4x4096x10x32_0_0_0_32) (table10 co))
      (mulf (extractStridedSlice S4x4096x10x32 ![0, 0, 0, 0] y slices_S4x4096x10x64_S4x4096x10x32_0_0_0_0) (table10 si))⟩]
    concatenates_S4x4096x10x32_S4x4096x10x32_S4x4096x10x64_d3

/-- Head `h`'s entry `d` is in the columns at: its pair's 128, its half's 64, its own 32 of them. -/
theorem heads10_apply (y : FVec Ideal S4x4096x640 .f32) (b : Fin 4) (t : Fin 4096) (h : Fin 10) (d : Fin 64) :
    heads10 y (ix4 b t h d)
      = y (ix3 b t (⟨h.val / 2 * 128 + d.val / 32 * 64 + h.val % 2 * 32 + d.val % 32, by omega⟩ : Fin 640)) := by
  unfold heads10
  pointwise

/-- The other way around. -/
theorem columns10_apply (y : FVec Ideal S4x4096x10x64 .f32) (b : Fin 4) (t : Fin 4096) (n : Fin 640) :
    columns10 y (ix3 b t n)
      = y (ix4 b t (⟨n.val / 128 * 2 + n.val / 32 % 2, by omega⟩ : Fin 10) (⟨n.val / 64 % 2 * 32 + n.val % 32, by omega⟩ : Fin 64)) := by
  unfold columns10
  pointwise

/-- … so at a column of the pair, half, head and place they say. -/
theorem heads10_at (y : FVec Ideal S4x4096x640 .f32) (b : Fin 4) (t : Fin 4096) (h : Fin 10) (d : Fin 64) (n : Fin 640)
    (hn : n.val = h.val / 2 * 128 + d.val / 32 * 64 + h.val % 2 * 32 + d.val % 32) :
    heads10 y (ix4 b t h d) = y (ix3 b t n) :=
  (heads10_apply y b t h d).trans (congrArg (fun n => y (ix3 b t n)) (Fin.ext hn.symm))

theorem table10_cos (b : Fin 4) (t : Fin 4096) (h : Fin 10) (d : Fin 32) :
    table10 (Host.cos angles) (ix4 b t h d) = Ideal.cos (angle t.val d.val) := by
  unfold table10
  pointwise
  rw [angles_apply]

theorem table10_sin (b : Fin 4) (t : Fin 4096) (h : Fin 10) (d : Fin 32) :
    table10 (Host.sin angles) (ix4 b t h d) = Ideal.sin (angle t.val d.val) := by
  unfold table10
  pointwise
  rw [angles_apply]

/-- The turned columns: in a first half, and in a second. -/
theorem turn10_lo (y : FVec Ideal S4x4096x640 .f32) (b : Fin 4) (t : Fin 4096) (n : Fin 640) (h : n.val % 128 < 64) :
    columns10 (rope10 (heads10 y) (Host.cos angles) (Host.sin angles)) (ix3 b t n)
      = turnLo t.val (n.val % 32) (y (ix3 b t n)) (y (ix3 b t (⟨n.val + 64, by omega⟩ : Fin 640))) := by
  have hn := n.isLt
  have e : n.val / 64 % 2 * 32 + n.val % 32 = n.val % 32 := by omega
  rw [columns10_apply]
  unfold rope10
  pointwise
  rw [dif_pos (by omega), heads10_at y b t _ _ n (by dsimp only; omega),
    heads10_at y b t _ _ ⟨n.val + 64, by omega⟩ (by dsimp only; omega), table10_cos, table10_sin]
  unfold turnLo
  dsimp only
  rw [e]

theorem turn10_hi (y : FVec Ideal S4x4096x640 .f32) (b : Fin 4) (t : Fin 4096) (n : Fin 640) (h : ¬ n.val % 128 < 64) :
    columns10 (rope10 (heads10 y) (Host.cos angles) (Host.sin angles)) (ix3 b t n)
      = turnHi t.val (n.val % 32) (y (ix3 b t n)) (y (ix3 b t (⟨n.val - 64, by omega⟩ : Fin 640))) := by
  have hn := n.isLt
  have e : n.val / 64 % 2 * 32 + n.val % 32 - 32 = n.val % 32 := by omega
  rw [columns10_apply]
  unfold rope10
  pointwise
  rw [dif_neg (by omega), heads10_at y b t _ _ n (by dsimp only; omega),
    heads10_at y b t _ _ ⟨n.val - 64, by omega⟩ (by dsimp only; omega), table10_cos, table10_sin]
  unfold turnHi
  dsimp only
  rw [e]

/-! ## The result -/

/-- The program's result, by its parts. -/
def assembled (x0 : FVec Ideal S16384x2048 .f32) (x1 : FVec Ideal S2048 .f32) (x2 : FVec Ideal S4x6144x2048 .bf16) :
    FVec Ideal S4x4096x6144 .f32 :=
  concatenate S4x4096x6144 2 [
    ⟨S4x4096x1024, columns16 (rope16 (heads16 (extractStridedSlice S4x4096x1024 ![0, 0, 0]
      (shapeCast S4x4096x6144 (proj x0 x1 x2) shapeCasts_S16384x6144_S4x4096x6144) slices_S4x4096x6144_S4x4096x1024_0_0_0))
      (Host.cos angles) (Host.sin angles))⟩,
    ⟨S4x4096x3072, extractStridedSlice S4x4096x3072 ![0, 0, 1024]
      (shapeCast S4x4096x6144 (proj x0 x1 x2) shapeCasts_S16384x6144_S4x4096x6144) slices_S4x4096x6144_S4x4096x3072_0_0_1024⟩,
    ⟨S4x4096x640, columns10 (rope10 (heads10 (extractStridedSlice S4x4096x640 ![0, 0, 4096]
      (shapeCast S4x4096x6144 (proj x0 x1 x2) shapeCasts_S16384x6144_S4x4096x6144) slices_S4x4096x6144_S4x4096x640_0_0_4096))
      (Host.cos angles) (Host.sin angles))⟩,
    ⟨S4x4096x1408, extractStridedSlice S4x4096x1408 ![0, 0, 4736]
      (shapeCast S4x4096x6144 (proj x0 x1 x2) shapeCasts_S16384x6144_S4x4096x6144) slices_S4x4096x6144_S4x4096x1408_0_0_4736⟩]
    concatenates_S4x4096x1024_S4x4096x3072_S4x4096x640_S4x4096x1408_S4x4096x6144_d2

/-- The projection at the row and column of the values given. -/
theorem proj_at (x0 : FVec Ideal S16384x2048 .f32) (x1 : FVec Ideal S2048 .f32) (x2 : FVec Ideal S4x6144x2048 .bf16)
    (R r : Fin 16384) (N n : Fin 6144) (hr : R.val = r.val) (hn : N.val = n.val) :
    proj x0 x1 x2 (ix2 R N) = ∑ k, normed (fun k => x0 (ix2 r k)) (fun k => x1 (ix1 k)) k * x2 (ix3 (0 : Fin 4) n k) := by
  obtain rfl := Fin.ext hr
  obtain rfl := Fin.ext hn
  exact proj_apply x0 x1 x2 R N

/-- Columns 0 to 1023, and columns 4096 to 4735: turned. -/
theorem turned16 (x0 : FVec Ideal S16384x2048 .f32) (x1 : FVec Ideal S2048 .f32) (x2 : FVec Ideal S4x6144x2048 .bf16)
    (b : Fin 4) (t : Fin 4096) (r : Fin 16384) (hr : r.val = 4096 * b.val + t.val) (k : Fin 1024) (n : Fin 6144)
    (hn : n.val = k.val) :
    columns16 (rope16 (heads16 (extractStridedSlice S4x4096x1024 ![0, 0, 0]
        (shapeCast S4x4096x6144 (proj x0 x1 x2) shapeCasts_S16384x6144_S4x4096x6144) slices_S4x4096x6144_S4x4096x1024_0_0_0))
        (Host.cos angles) (Host.sin angles)) (ix3 b t k)
      = result x0 x1 x2 r n := by
  have hk := k.isLt
  have ht : r.val % 4096 = t.val := by omega
  have e : k.val % 32 = n.val % 32 := by omega
  unfold result rotated
  rw [dif_pos (show n.val < 1024 ∨ 4096 ≤ n.val ∧ n.val < 4736 by omega), ht, ← e]
  by_cases h : k.val % 128 < 64
  · rw [turn16_lo _ b t k h, dif_pos (show n.val % 128 < 64 by omega)]
    pointwise
    rw [proj_at x0 x1 x2 _ r _ n (by dsimp only; omega) (by dsimp only; omega),
      proj_at x0 x1 x2 _ r _ ⟨n.val + 64, by omega⟩ (by dsimp only; omega) (by dsimp only; omega)]
  · rw [turn16_hi _ b t k h, dif_neg (show ¬ n.val % 128 < 64 by omega)]
    pointwise
    rw [proj_at x0 x1 x2 _ r _ n (by dsimp only; omega) (by dsimp only; omega),
      proj_at x0 x1 x2 _ r _ ⟨n.val - 64, by omega⟩ (by dsimp only; omega) (by dsimp only; omega)]

theorem turned10 (x0 : FVec Ideal S16384x2048 .f32) (x1 : FVec Ideal S2048 .f32) (x2 : FVec Ideal S4x6144x2048 .bf16)
    (b : Fin 4) (t : Fin 4096) (r : Fin 16384) (hr : r.val = 4096 * b.val + t.val) (k : Fin 640) (n : Fin 6144)
    (hn : n.val = 4096 + k.val) :
    columns10 (rope10 (heads10 (extractStridedSlice S4x4096x640 ![0, 0, 4096]
        (shapeCast S4x4096x6144 (proj x0 x1 x2) shapeCasts_S16384x6144_S4x4096x6144) slices_S4x4096x6144_S4x4096x640_0_0_4096))
        (Host.cos angles) (Host.sin angles)) (ix3 b t k)
      = result x0 x1 x2 r n := by
  have hk := k.isLt
  have ht : r.val % 4096 = t.val := by omega
  have e : k.val % 32 = n.val % 32 := by omega
  unfold result rotated
  rw [dif_pos (show n.val < 1024 ∨ 4096 ≤ n.val ∧ n.val < 4736 by omega), ht, ← e]
  by_cases h : k.val % 128 < 64
  · rw [turn10_lo _ b t k h, dif_pos (show n.val % 128 < 64 by omega)]
    pointwise
    rw [proj_at x0 x1 x2 _ r _ n (by dsimp only; omega) (by dsimp only; omega),
      proj_at x0 x1 x2 _ r _ ⟨n.val + 64, by omega⟩ (by dsimp only; omega) (by dsimp only; omega)]
  · rw [turn10_hi _ b t k h, dif_neg (show ¬ n.val % 128 < 64 by omega)]
    pointwise
    rw [proj_at x0 x1 x2 _ r _ n (by dsimp only; omega) (by dsimp only; omega),
      proj_at x0 x1 x2 _ r _ ⟨n.val - 64, by omega⟩ (by dsimp only; omega) (by dsimp only; omega)]

/-- The assembled result at the row of a batch and position. -/
theorem assembled_apply (x0 : FVec Ideal S16384x2048 .f32) (x1 : FVec Ideal S2048 .f32) (x2 : FVec Ideal S4x6144x2048 .bf16)
    (b : Fin 4) (t : Fin 4096) (r : Fin 16384) (hr : r.val = 4096 * b.val + t.val) (n : Fin 6144) :
    assembled x0 x1 x2 (ix3 b t n) = result x0 x1 x2 r n := by
  have hn := n.isLt
  have hplain (h : ¬ (n.val < 1024 ∨ 4096 ≤ n.val ∧ n.val < 4736)) (R : Fin 16384) (N : Fin 6144)
      (hR : R.val = r.val) (hN : N.val = n.val) : proj x0 x1 x2 (ix2 R N) = result x0 x1 x2 r n := by
    unfold result rotated
    rw [dif_neg h, proj_at x0 x1 x2 R r N n hR hN]
  unfold assembled
  pointwise
  by_cases h0 : n.val < 1024
  · rw [dif_pos h0]
    exact turned16 x0 x1 x2 b t r hr _ n rfl
  rw [dif_neg h0]
  by_cases h1 : n.val - 1024 < 3072
  · rw [dif_pos h1]
    exact hplain (by omega) _ _ (by dsimp only; omega) (by dsimp only; omega)
  rw [dif_neg h1]
  by_cases h2 : n.val - 1024 - 3072 < 640
  · rw [dif_pos h2]
    exact turned10 x0 x1 x2 b t r hr _ n (by dsimp only; omega)
  · rw [dif_neg h2]
    exact hplain (by omega) _ _ (by dsimp only; omega) (by dsimp only; omega)

/-- The plain program's result at an entry is `result` of its arguments. -/
theorem ref_apply (m : (ℓ : Loc nD τ sig) → Buf (Elt Ideal) ℓ) (c : Dev nD) (r : Fin 16384) (n : Fin 6144) :
    res_main_v104 m c (ix2 r n) = result (m ((c.tc : Thread nD τ).loc main_arg0)) (m ((c.tc : Thread nD τ).loc main_arg1))
      (m ((c.tc : Thread nD τ).loc main_arg2)) r n := by
  have e : res_main_v104 m c = shapeCast S16384x6144 (assembled (m ((c.tc : Thread nD τ).loc main_arg0))
      (m ((c.tc : Thread nD τ).loc main_arg1)) (m ((c.tc : Thread nD τ).loc main_arg2))) shapeCasts_S4x4096x6144_S16384x6144 := by
    unfold res_main_v104; rfl
  rw [e]
  generalize m ((c.tc : Thread nD τ).loc main_arg0) = x0
  generalize m ((c.tc : Thread nD τ).loc main_arg1) = x1
  generalize m ((c.tc : Thread nD τ).loc main_arg2) = x2
  have h : r.val = 4096 * (r.val / 4096) + r.val % 4096 := by omega
  rw [← assembled_apply x0 x1 x2 (⟨r.val / 4096, by omega⟩ : Fin 4) (⟨r.val % 4096, by omega⟩ : Fin 4096) r h n]
  clean_types
  pointwise

end Cert.Proof.InRef

end
-- ==== Proof.InClaims.lean ====
/- The claims about the input projection: its launches run to the end and leave their arguments alone, the ideal pass
   rewrote nothing, and over extended reals it computes the plain program's result. -/
module

public import proofs.«01_k».proof.Defs
public import proofs.«01_k».proof.Proof.Gen.In.Frame
public import proofs.«01_k».proof.Proof.InValue
public import proofs.«01_k».proof.Proof.InRef
public import Idealize.ShloMosaic.Lib.Quiescent

@[expose] public section

noncomputable section

namespace Cert.Proof.InClaims

open Idealize.ShloMosaic Idealize.ShloMosaic.TcCoe Idealize.SL.Sem

/-- The kernel's launch, at bits and at extended reals. -/
theorem frame_kernel : Cert.quiescent_In := fun m ρ _ => Cert.In.Gen.frame m ρ
theorem frame_ideal : Cert.quiescent_InIdeal := fun m ρ _ => Cert.InIdeal.Gen.frame m ρ

/-- The plain program's run. -/
theorem frame_ref : Cert.quiescent_InRefIdeal := fun m ρ _ =>
  (θ_run Cert.InRefIdeal.defs _ _).mono (fun r h => ⟨fun c => (h c).2,
      Idealize.ShloMosaic.sem_eq_zero_of_no_sems (by decide) r.2⟩)
    (Cert.InRefIdeal.Value.run (F := Ideal) m ρ)

/-- The ideal pass rewrote nothing. -/
theorem preserves : Cert.preserves_In_InIdeal := trivial

/-- The two results are the same function of arguments that agree. -/
theorem algebraic : Cert.algebraic_InIdeal_InRefIdeal := by
  intro m ρ m' ρ' _ hagree
  refine ⟨fun c => InValue.G m c, ?_, ?_⟩
  · exact (θ_run Cert.InIdeal.defs _ _).mono (fun _ h c => ⟨(h c).1.trans (InValue.final m c), (h c).2⟩)
      (Cert.InIdeal.Value.run_blocks (F := Ideal) m ρ)
  · refine (θ_run Cert.InRefIdeal.defs _ _).mono (fun _ h c => ⟨(h c).1.trans ?_, (h c).2⟩)
      (Cert.InRefIdeal.Value.run (F := Ideal) m' ρ')
    funext i
    obtain ⟨r, n, rfl⟩ : ∃ (r : Fin 16384) (n : Fin 6144), i = ix2 r n := ⟨i 0, i 1, by funext a; fin_cases a <;> rfl⟩
    rw [InRef.ref_apply]
    obtain ⟨e0, e1, e2⟩ := hagree c
    rw [e0, e1, e2]
    rfl

end Cert.Proof.InClaims

end
-- ==== Proof.PrepMath.lean ====
/- Where the rows of the prepared input weights come from: each is a column of the model's input weights, or zero. -/
module

public import Idealize.ShloMosaic.Lib.Pointwise

@[expose] public section

noncomputable section

namespace Cert.Proof.PrepMath

/-- A row of a head pair's tile of 128: the first halves of the two heads, then the second halves. As a row of the pair's
    two heads one after the other. -/
def halves (l : Nat) : Nat := l / 32 % 2 * 64 + l / 64 * 32 + l % 32

/-- A row of four pairs, and a row of two groups of four heads side by side, as rows of the heads one after another. -/
def pairRow (q : Nat) : Nat := q / 128 * 128 + halves (q % 128)
def groupRow (q : Nat) : Nat := (q / 128 + 4 * (q / 64 % 2)) * 64 + q % 64

/-- The column of the input weights that row `r` holds: queries and keys of the moments attention in pairs of heads, its
    values and gate and the convolution's channels as they are, the state-space gate, the sliding window's gate and queries
    with the two groups of heads side by side, its keys and values, the time steps, and the recurrence's input and gate. -/
def source (r : Nat) : Nat :=
  if r < 1024 then pairRow r
  else if r < 3072 then r
  else if r < 3584 then r + 8
  else if r < 4096 then 4360 + groupRow (r - 3584)
  else if r < 4608 then 3592 + groupRow (pairRow (r - 4096))
  else if r < 4736 then 4104 + halves (r - 4608)
  else if r < 4864 then r - 504
  else if r < 4872 then r - 1792
  else r - 248

/-- The rows between the time steps and the recurrence's input are zero. -/
def blank (r : Nat) : Prop := 4872 ≤ r ∧ r < 5120

instance (r : Nat) : Decidable (blank r) := inferInstanceAs (Decidable (_ ∧ _))

theorem groupRow_lt (q : Nat) (hq : q < 512) : groupRow q < 512 := by
  unfold groupRow
  omega

/-- Every row's column is one of the input weights'. -/
theorem source_lt (r : Nat) (hr : r < 6144) : source r < 5896 := by
  have h0 : r < 1024 → pairRow r < 1024 := fun _ => by unfold pairRow halves; omega
  have h1 : r - 3584 < 512 → groupRow (r - 3584) < 512 := groupRow_lt _
  have h2 : r - 4096 < 512 → pairRow (r - 4096) < 512 := fun _ => by unfold pairRow halves; omega
  have h3 := groupRow_lt (pairRow (r - 4096))
  have h4 : r - 4608 < 128 → halves (r - 4608) < 128 := fun _ => by unfold halves; omega
  unfold source
  split_ifs <;> omega

/-- Row `r` of the prepared weights, from the columns of the input weights. -/
def prepared (w : Fin 5896 → EReal) (r : Fin 6144) : EReal :=
  if blank r.val then 0 else w ⟨source r.val, source_lt r.val r.isLt⟩

/-- A row of a run of `n` rows, after `pre` rows, that are the columns `f`. -/
theorem prepared_run (w : Fin 5896 → EReal) (n pre : Nat) (f : Nat → Nat) (hf : ∀ q < n, ¬ blank (pre + q) ∧ source (pre + q) = f q)
    (r : Fin 6144) (q : Fin n) (hq : pre + q.val = r.val) (v : EReal) (hv : ∀ h : f q.val < 5896, v = w ⟨f q.val, h⟩) :
    v = prepared w r := by
  obtain ⟨hb, hs⟩ := hf q.val q.isLt
  rw [hq] at hb hs
  unfold prepared
  rw [if_neg hb, hv (hs ▸ source_lt r.val r.isLt)]
  exact congrArg w (Fin.ext hs.symm)

/-- A row that is a column. -/
theorem prepared_eq (w : Fin 5896 → EReal) (r : Fin 6144) (s : Fin 5896) (hb : ¬ blank r.val) (hs : source r.val = s.val) :
    prepared w r = w s := by
  unfold prepared
  rw [if_neg hb]
  exact congrArg w (Fin.ext hs)

/-- A row that is zero. -/
theorem prepared_blank (w : Fin 5896 → EReal) (r : Fin 6144) (hb : blank r.val) : prepared w r = 0 := if_pos hb

end Cert.Proof.PrepMath

end
-- ==== Proof.PrepKernel.lean ====
/- The kernel that prepares the input weights: what one grid point writes. Its stores copy runs of rows of its block, and one
   of them puts zero rows after the time steps'. -/
module

public import proofs.«01_k».proof.Proof.Gen.PrepIdeal.Value
public import proofs.«01_k».proof.Proof.PrepMath
public import Idealize.ShloMosaic.Lib.KernelVsHost

@[expose] public section

set_option maxRecDepth 16384

noncomputable section

namespace Cert.Proof.PrepKernel

open Cert.PrepIdeal Cert.PrepIdeal.Gen Cert.PrepIdeal.Value Idealize.ShloMosaic Idealize.ShloMosaic.TcCoe Idealize.SL.Sem PrepMath

/-- What a grid point writes, from its block. -/
def G (x0 : Vec Ideal S1x5896x256 .f32) : Vec Ideal S1x6144x256 .bf16 := fun y => prepared (fun s => x0 (ix3 (0 : Fin 1) s (y 2))) (y 1)

/-- A run of rows as a rectangle of the block that is written, and of the block that is read. -/
theorem emb_out (n dst : Nat) (inb : ∀ a, (![0, dst, 0] : Fin 3 → Nat) a + (![1, n, 256] : Fin 3 → Nat) a ≤ S1x6144x256.size a)
    (r : Fin n) (l : Fin 256) (hr : dst + r.val < 6144) :
    (Rect.unit (s := S1x6144x256) ![0, dst, 0] ![1, n, 256] inb).emb (ix3 (0 : Fin 1) r l) = ix3 (0 : Fin 1) (⟨dst + r.val, hr⟩ : Fin 6144) l := by
  refine funext fun a => Fin.ext ?_
  match a with
  | ⟨0, _⟩ => rfl
  | ⟨1, _⟩ => show dst + 1 * r.val = dst + r.val; omega
  | ⟨2, _⟩ => show 0 + 1 * l.val = l.val; omega

theorem idx_in (n src : Nat) (inb : ∀ a, (![0, src, 0] : Fin 3 → Nat) a + (![1, n, 256] : Fin 3 → Nat) a ≤ S1x5896x256.size a)
    (r : Fin n) (l : Fin 256) (hr : src + r.val < 5896) :
    (Rect.unit (s := S1x5896x256) ![0, src, 0] ![1, n, 256] inb).idx (ix3 (0 : Fin 1) r l) = ix3 (0 : Fin 1) (⟨src + r.val, hr⟩ : Fin 5896) l := by
  refine funext fun a => Fin.ext ?_
  match a with
  | ⟨0, _⟩ => rfl
  | ⟨1, _⟩ => show src + 1 * r.val = src + r.val; omega
  | ⟨2, _⟩ => show 0 + 1 * l.val = l.val; omega

/-- A store of `n` rows from row `dst`, of the rows loaded from row `src`. -/
theorem stored (arg2 : Memref sig .tc .vmem S1x5896x256 .f32) (harg2 : arg2.IsWhole) (x0 : Vec Ideal S1x5896x256 .f32)
    (n dst src : Nat) (T : Shape)
    (inb : ∀ a, (![0, dst, 0] : Fin 3 → Nat) a + (![1, n, 256] : Fin 3 → Nat) a ≤ S1x6144x256.size a)
    (inb' : ∀ a, (![0, src, 0] : Fin 3 → Nat) a + (![1, n, 256] : Fin 3 → Nat) a ≤ S1x5896x256.size a)
    (h : (⟨3, ![1, n, 256]⟩ : Shape).ShapeCasts T) (h' : T.ShapeCasts (⟨3, ![1, n, 256]⟩ : Shape)) (hb : FTy.bf16.bits < FTy.f32.bits)
    (hs : ∀ r < n, ¬ blank (dst + r) ∧ source (dst + r) = src + r) (x : (⟨3, ![1, n, 256]⟩ : Shape).Idx) :
    shapeCast (⟨3, ![1, n, 256]⟩ : Shape) (truncf (F := Ideal) .bf16 (shapeCast T
        (View.readAt (Elt Ideal) arg2.view (Rect.unit (s := S1x5896x256) ![0, src, 0] ![1, n, 256] inb').toLoadRect (harg2.unread x0)) h) hb) h' x
      = G x0 ((Rect.unit (s := S1x6144x256) ![0, dst, 0] ![1, n, 256] inb).emb x) := by
  obtain ⟨r, l, rfl⟩ : ∃ (r : Fin n) (l : Fin 256), x = ix3 (0 : Fin 1) r l :=
    ⟨x 1, x 2, (eq_ix3 x).trans (congrArg (fun a : Fin 1 => ix3 a (x 1) (x 2)) (Subsingleton.elim _ _))⟩
  have i1 : dst + n ≤ 6144 := inb 1
  have i2 : src + n ≤ 5896 := inb' 1
  have hr := r.isLt
  obtain ⟨hb, hsr⟩ := hs r.val hr
  rw [emb_out n dst inb r l (by omega), View.readAt_eq_ld, harg2.read_unread]
  refine (congrFun (shapeCast_shapeCast (View.ld x0 (Rect.unit (s := S1x5896x256) ![0, src, 0] ![1, n, 256] inb')) h h') _).trans ?_
  refine (congrArg x0 (idx_in n src inb' r l (by omega))).trans ?_
  exact (prepared_eq (fun s => x0 (ix3 (0 : Fin 1) s l)) _ (⟨src + r.val, by omega⟩ : Fin 5896) hb hsr).symm

/-- The rows of the time steps, with zero rows after them. -/
theorem tail_apply (v : Vec Ideal S1x8x256 .f32) (r : Fin 256) (l : Fin 256) :
    k0_pay1 (k0_pay77 v) (ix3 (0 : Fin 1) r l) = if h : r.val < 8 then v (ix3 (0 : Fin 1) (⟨r.val, h⟩ : Fin 8) l) else 0 := by
  pointwise [k0_pay1, k0_pay77]

/-- Their store. -/
theorem stored_tail (arg2 : Memref sig .tc .vmem S1x5896x256 .f32) (harg2 : arg2.IsWhole) (x0 : Vec Ideal S1x5896x256 .f32)
    (inb : ∀ a, (![0, 4864, 0] : Fin 3 → Nat) a + (![1, 256, 256] : Fin 3 → Nat) a ≤ S1x6144x256.size a)
    (inb' : ∀ a, (![0, 3072, 0] : Fin 3 → Nat) a + (![1, 8, 256] : Fin 3 → Nat) a ≤ S1x5896x256.size a) (x : S1x256x256.Idx) :
    k0_pay1 (k0_pay77 (View.readAt (Elt Ideal) arg2.view (Rect.unit (s := S1x5896x256) ![0, 3072, 0] ![1, 8, 256] inb').toLoadRect (harg2.unread x0))) x
      = G x0 ((Rect.unit (s := S1x6144x256) ![0, 4864, 0] ![1, 256, 256] inb).emb x) := by
  obtain ⟨r, l, rfl⟩ : ∃ (r : Fin 256) (l : Fin 256), x = ix3 (0 : Fin 1) r l :=
    ⟨x 1, x 2, (eq_ix3 x).trans (congrArg (fun a : Fin 1 => ix3 a (x 1) (x 2)) (Subsingleton.elim _ _))⟩
  rw [emb_out 256 4864 inb r l (by omega), View.readAt_eq_ld, harg2.read_unread, tail_apply]
  split_ifs with h
  · refine (congrArg x0 (idx_in 8 3072 inb' (⟨r.val, h⟩ : Fin 8) l (by show 3072 + r.val < 5896; omega))).trans ?_
    refine (prepared_eq (fun s => x0 (ix3 (0 : Fin 1) s l)) _ (⟨3072 + r.val, by omega⟩ : Fin 5896) ?_ ?_).symm
    · unfold blank; show ¬ (4872 ≤ 4864 + r.val ∧ 4864 + r.val < 5120); omega
    · show source (4864 + r.val) = 3072 + r.val
      unfold source
      split_ifs <;> omega
  · refine (prepared_blank (fun s => x0 (ix3 (0 : Fin 1) s l)) (⟨4864 + r.val, by omega⟩ : Fin 6144) ?_).symm
    show 4872 ≤ 4864 + r.val ∧ 4864 + r.val < 5120
    omega

set_option maxHeartbeats 8000000 in
/-- What a grid point writes. -/
theorem out_A (c : Dev nD) (i : grid0.Coords)
    (arg2 : Memref sig .tc .vmem S1x5896x256 .f32) (harg2 : arg2.IsWhole)
    (arg3 : Memref sig .tc .vmem S1x6144x256 .bf16) (harg3 : arg3.IsWhole) (x0 : Vec Ideal S1x5896x256 .f32) :
    out0_A_1 c i arg2 harg2 arg3 harg3 x0 = G x0 := by
  unfold out0_A_1
  rw [View.read_writes_junk_eq_canon]
  funext y
  refine View.canon_apply_of_pieces (G x0) _ ?_ y (cover0_A_1 c i arg2 harg2 arg3 harg3 x0 y)
  unfold kernelRun0_A
  dsimp only
  refine List.forall_mem_cons.2 ⟨fun x => stored_tail arg2 harg2 x0 (by decide) (by decide) x, ?_⟩
  repeat' refine List.forall_mem_cons.2 ⟨fun x => stored arg2 harg2 x0 _ _ _ _ (by decide) (by decide) (by decide) (by decide) (by decide) (by decide +kernel) x, ?_⟩
  exact List.forall_mem_nil _

end Cert.Proof.PrepKernel

end
-- ==== Proof.PrepValue.lean ====
/- The prepared input weights. The launch has 32 points, one for each of four layers and eight blocks of 256 inputs. So every
   row is the column of the layer's weights that `source` says, or zero. -/
module

public import proofs.«01_k».proof.Proof.PrepKernel
public import Idealize.ShloMosaic.Lib.StableHlo.ReadAt

@[expose] public section

set_option maxRecDepth 16384

noncomputable section

namespace Cert.Proof.PrepValue

open Cert.PrepIdeal Cert.PrepIdeal.Gen Cert.PrepIdeal.Value Idealize.ShloMosaic Idealize.ShloMosaic.TcCoe Idealize.SL.Sem PrepMath PrepKernel

variable (m : (ℓ : Loc nD τ sig) → Buf (Elt Ideal) ℓ) (ρ : Dev nD → PrngReg)

/-- The weights with their columns as rows. -/
theorem columns (c : Dev nD) (b : Fin 4) (s : Fin 5896) (k : Fin 2048) :
    V m c main_v0 (ix3 b s k) = m ((c.tc : Thread nD τ).loc main_arg0) (ix3 b k s) := by
  unfold V; after_reads_at

/-- A point's block. -/
theorem blk0 (c : Dev nD) (t : Fin cfg0.N) (s : Fin 5896) (l : Fin 256) (b : Fin 4) (hb : b.val = t.val / 8)
    (K : Fin 2048) (hK : K.val = 256 * (t.val % 8) + l.val) :
    iblk m c 0 t (ix3 (0 : Fin 1) s l) = m ((c.tc : Thread nD τ).loc main_arg0) (ix3 b K s) := by
  refine Eq.trans ?_ (columns m c b s K)
  show V m c main_v0 (((cfg0.win 0).blk t).view.emb (ix3 (0 : Fin 1) s l)) = _
  obtain ⟨e0, e1, e2⟩ := (by decide +kernel : ∀ t : Fin grid0.N, win0_0.index t (0 : Fin 3) = t.val / 8
    ∧ win0_0.index t (1 : Fin 3) = 0 ∧ win0_0.index t (2 : Fin 3) = t.val % 8) t
  refine congrArg _ (funext fun a => Fin.ext ?_)
  match a with
  | ⟨0, _⟩ => show win0_0.index t (0 : Fin 3) * 1 + 1 * 0 = b.val; omega
  | ⟨1, _⟩ => show win0_0.index t (1 : Fin 3) * 5896 + 1 * s.val = s.val; omega
  | ⟨2, _⟩ => show win0_0.index t (2 : Fin 3) * 256 + 1 * l.val = K.val; omega

/-- The result array. -/
def G (c : Dev nD) : Vec Ideal S4x6144x2048 .bf16 := fun i =>
  prepared (fun s => m ((c.tc : Thread nD τ).loc main_arg0) (ix3 (i 0) (i 2) s)) (i 1)

/-- What a point writes back is its block of `G`. -/
theorem flushed_eq (c : Dev nD) (t : Fin cfg0.N) :
    (dats m 0 c).flushed 1 t = ((cfg0.win 1).blk t).view.read (Elt Ideal) (G m c) := by
  have ht : t.val < 32 := lt_of_lt_of_eq t.isLt Gen.N_0
  obtain ⟨e0, e1, e2⟩ := (by decide +kernel : ∀ t : Fin grid0.N, win0_1.index t (0 : Fin 3) = t.val / 8
    ∧ win0_1.index t (1 : Fin 3) = 0 ∧ win0_1.index t (2 : Fin 3) = t.val % 8) t
  have hemb (r : Fin 6144) (l : Fin 256) : ((cfg0.win 1).blk t).view.emb (ix3 (0 : Fin 1) r l)
      = ix3 (⟨t.val / 8, by omega⟩ : Fin 4) r (⟨256 * (t.val % 8) + l.val, by omega⟩ : Fin 2048) := by
    refine funext fun a => Fin.ext ?_
    match a with
    | ⟨0, _⟩ => show win0_1.index t (0 : Fin 3) * 1 + 1 * 0 = t.val / 8; omega
    | ⟨1, _⟩ => show win0_1.index t (1 : Fin 3) * 6144 + 1 * r.val = r.val; omega
    | ⟨2, _⟩ => show win0_1.index t (2 : Fin 3) * 256 + 1 * l.val = 256 * (t.val % 8) + l.val; omega
  rw [flushed1_A m c t, out_A]
  funext j
  obtain ⟨r, l, rfl⟩ : ∃ (r : Fin 6144) (l : Fin 256), j = ix3 (0 : Fin 1) r l :=
    ⟨j 1, j 2, (eq_ix3 j).trans (congrArg (fun a : Fin 1 => ix3 a (j 1) (j 2)) (Subsingleton.elim _ _))⟩
  show _ = G m c (((cfg0.win 1).blk t).view.emb (ix3 (0 : Fin 1) r l))
  rw [hemb]
  exact congrArg (fun w => prepared w r) (funext fun s => blk0 m c t s l _ rfl _ rfl)

/-- Every entry of the result is in the block of the point of its layer and inputs. -/
theorem covered (i : S4x6144x2048.Idx) :
    ∃ t : Fin cfg0.N, (cfg0.win 1).flush t = true ∧ i ∈ ((cfg0.win 1).blk t).view.set := by
  have h0 : (i 0).val < 4 := (i 0).isLt
  have h1 : (i 1).val < 6144 := (i 1).isLt
  have h2 : (i 2).val < 2048 := (i 2).isLt
  obtain ⟨t, ht⟩ : ∃ t : Fin cfg0.N, t.val = 8 * (i 0).val + (i 2).val / 256 :=
    ⟨⟨8 * (i 0).val + (i 2).val / 256, by show _ < grid0.N; rw [Gen.N_0]; omega⟩, rfl⟩
  refine ⟨t, flush0_1 t, ?_⟩
  obtain ⟨e0, e1, e2⟩ := (by decide +kernel : ∀ t : Fin grid0.N, win0_1.index t (0 : Fin 3) = t.val / 8
    ∧ win0_1.index t (1 : Fin 3) = 0 ∧ win0_1.index t (2 : Fin 3) = t.val % 8) t
  show i ∈ ((View.whole main_v1).slice (win0_1.rect t)).set
  rw [View.set_slice_whole, Rect.mem_set_unit]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 6144 ≤ (i 1).val ∧ (i 1).val < win0_1.index t (1 : Fin 3) * 6144 + 6144
    omega
  | ⟨2, _⟩ =>
    show win0_1.index t (2 : Fin 3) * 256 ≤ (i 2).val ∧ (i 2).val < win0_1.index t (2 : Fin 3) * 256 + 256
    omega

/-- The result array after the run. -/
theorem final (c : Dev nD) : (dats m 0 c).arrAt 1 cfg0.N = G m c :=
  (dats m 0 c).arrAt_eq_of_cover 1 (G m c) (fun t _ => flushed_eq m c t) covered

end Cert.Proof.PrepValue

end
-- ==== Proof.PrepRef.lean ====
/- The plain program that prepares the input weights, part by part, and each part read at one entry. -/
module

public import proofs.«01_k».proof.Proof.Gen.PrepRefIdeal.Run
public import proofs.«01_k».proof.Proof.PrepMath
public import Idealize.ShloMosaic.Lib.Tactic.CleanTypes

@[expose] public section

set_option maxRecDepth 16384

noncomputable section

namespace Cert.Proof.PrepRef

open Cert.PrepRefIdeal Cert.PrepRefIdeal.Gen Cert.PrepRefIdeal.Value Idealize.ShloMosaic Idealize.ShloMosaic.TcCoe Idealize.SL.Sem PrepMath

/-- The weights with their columns as rows. -/
def columns (w : FVec Ideal S4x2048x5896 .f32) : FVec Ideal S4x5896x2048 .f32 :=
  transpose S4x5896x2048 [0, 2, 1] w transposes_S4x2048x5896_S4x5896x2048_0_2_1

/-- Eight heads in four pairs, the heads of a pair interleaved by halves. -/
def pairs (y : FVec Ideal S4x512x2048 .f32) : FVec Ideal S4x512x2048 .f32 :=
  shapeCast _ (transpose S4x4x2x2x32x2048 [0, 1, 3, 2, 4, 5] (shapeCast _ y shapeCasts_S4x512x2048_S4x4x2x2x32x2048) transposes_S4x4x2x2x32x2048_S4x4x2x2x32x2048_0_1_3_2_4_5) shapeCasts_S4x4x2x2x32x2048_S4x512x2048

/-- One pair. -/
def pair (y : FVec Ideal S4x128x2048 .f32) : FVec Ideal S4x128x2048 .f32 :=
  shapeCast _ (transpose S4x1x2x2x32x2048 [0, 1, 3, 2, 4, 5] (shapeCast _ y shapeCasts_S4x128x2048_S4x1x2x2x32x2048) transposes_S4x1x2x2x32x2048_S4x1x2x2x32x2048_0_1_3_2_4_5) shapeCasts_S4x1x2x2x32x2048_S4x128x2048

/-- The two groups of four heads side by side. -/
def byGroup (y : FVec Ideal S4x512x2048 .f32) : FVec Ideal S4x512x2048 .f32 :=
  shapeCast _ (transpose S4x4x2x64x2048 [0, 2, 1, 3, 4] (shapeCast _ y shapeCasts_S4x512x2048_S4x2x4x64x2048) transposes_S4x2x4x64x2048_S4x4x2x64x2048_0_2_1_3_4) shapeCasts_S4x4x2x64x2048_S4x512x2048

/-- Rows of zeros. -/
def zeros : FVec Ideal S4x248x2048 .f32 := broadcastInDim S4x248x2048 ![] bcast_S_S4x248x2048 (constant S_ .f32 0x00000000#32)

/-- The parts in their order. -/
def parts (q k v g : FVec Ideal S4x512x2048 .f32) (u : FVec Ideal S4x1024x2048 .f32) (z sg sq : FVec Ideal S4x512x2048 .f32)
    (sk sv : FVec Ideal S4x128x2048 .f32) (dt : FVec Ideal S4x8x2048 .f32) (su sh : FVec Ideal S4x512x2048 .f32) : List ((s : Shape) × (s.Idx → EReal)) :=
  [⟨S4x512x2048, q⟩, ⟨S4x512x2048, k⟩, ⟨S4x512x2048, v⟩, ⟨S4x512x2048, g⟩, ⟨S4x1024x2048, u⟩, ⟨S4x512x2048, z⟩, ⟨S4x512x2048, sg⟩,
    ⟨S4x512x2048, sq⟩, ⟨S4x128x2048, sk⟩, ⟨S4x128x2048, sv⟩, ⟨S4x8x2048, dt⟩, ⟨S4x248x2048, zeros⟩, ⟨S4x512x2048, su⟩, ⟨S4x512x2048, sh⟩]

/-- Together they have the result's rows. -/
theorem fits (q k v g : FVec Ideal S4x512x2048 .f32) (u : FVec Ideal S4x1024x2048 .f32) (z sg sq : FVec Ideal S4x512x2048 .f32)
    (sk sv : FVec Ideal S4x128x2048 .f32) (dt : FVec Ideal S4x8x2048 .f32) (su sh : FVec Ideal S4x512x2048 .f32) :
    Shape.Concatenates ((parts q k v g u z sg sq sk sv dt su sh).map (·.1)) S4x6144x2048 1 :=
  concatenates_S4x512x2048_S4x512x2048_S4x512x2048_S4x512x2048_S4x1024x2048_S4x512x2048_S4x512x2048_S4x512x2048_S4x128x2048_S4x128x2048_S4x8x2048_S4x248x2048_S4x512x2048_S4x512x2048_S4x6144x2048_d1

/-- The parts one after another. -/
def joined (q k v g : FVec Ideal S4x512x2048 .f32) (u : FVec Ideal S4x1024x2048 .f32) (z sg sq : FVec Ideal S4x512x2048 .f32)
    (sk sv : FVec Ideal S4x128x2048 .f32) (dt : FVec Ideal S4x8x2048 .f32) (su sh : FVec Ideal S4x512x2048 .f32) : FVec Ideal S4x6144x2048 .bf16 :=
  truncf .bf16 (concatenate S4x6144x2048 1 (parts q k v g u z sg sq sk sv dt su sh) (fits q k v g u z sg sq sk sv dt su sh)) bitsLt_bf16_f32

/-- A run of rows. -/
def run (n o : Nat) (hs : S4x5896x2048.Slices ![0, o, 0] ⟨3, ![4, n, 2048]⟩) (y : FVec Ideal S4x5896x2048 .f32) : FVec Ideal ⟨3, ![4, n, 2048]⟩ .f32 :=
  extractStridedSlice ⟨3, ![4, n, 2048]⟩ ![0, o, 0] y hs

/-- The result, from the weights' columns. -/
def res (y : FVec Ideal S4x5896x2048 .f32) : FVec Ideal S4x6144x2048 .bf16 :=
  joined (pairs (run 512 0 slices_S4x5896x2048_S4x512x2048_0_0_0 y)) (pairs (run 512 512 slices_S4x5896x2048_S4x512x2048_0_512_0 y))
    (run 512 1024 slices_S4x5896x2048_S4x512x2048_0_1024_0 y) (run 512 1536 slices_S4x5896x2048_S4x512x2048_0_1536_0 y)
    (run 1024 2048 slices_S4x5896x2048_S4x1024x2048_0_2048_0 y)
    (run 512 3080 slices_S4x5896x2048_S4x512x2048_0_3080_0 y)
    (byGroup (run 512 4360 slices_S4x5896x2048_S4x512x2048_0_4360_0 y)) (pairs (byGroup (run 512 3592 slices_S4x5896x2048_S4x512x2048_0_3592_0 y)))
    (pair (run 128 4104 slices_S4x5896x2048_S4x128x2048_0_4104_0 y))
    (run 128 4232 slices_S4x5896x2048_S4x128x2048_0_4232_0 y)
    (run 8 3072 slices_S4x5896x2048_S4x8x2048_0_3072_0 y)
    (run 512 4872 slices_S4x5896x2048_S4x512x2048_0_4872_0 y) (run 512 5384 slices_S4x5896x2048_S4x512x2048_0_5384_0 y)

theorem res_eq (m : (ℓ : Loc nD τ sig) → Buf (Elt Ideal) ℓ) (c : Dev nD) :
    res_main_v34 m c = res (columns (m ((c.tc : Thread nD τ).loc main_arg0))) := by
  unfold res_main_v34
  rfl

variable (b : Fin 4) (k : Fin 2048)

theorem columns_apply (w : FVec Ideal S4x2048x5896 .f32) (s : Fin 5896) : columns w (ix3 b s k) = w (ix3 b k s) := by
  pointwise [columns]

theorem run_apply (n o : Nat) (hs : S4x5896x2048.Slices ![0, o, 0] ⟨3, ![4, n, 2048]⟩) (y : FVec Ideal S4x5896x2048 .f32) (r : Fin n)
    (ho : o + r.val < 5896) : run n o hs y (ix3 b r k) = y (ix3 b (⟨o + r.val, ho⟩ : Fin 5896) k) := by
  refine congrArg y (funext fun a => Fin.ext ?_)
  match a with
  | ⟨0, _⟩ => show 0 + b.val = b.val; omega
  | ⟨1, _⟩ => rfl
  | ⟨2, _⟩ => show 0 + k.val = k.val; omega

theorem zeros_apply (r : Fin 248) : zeros (ix3 b r k) = 0 := by
  pointwise [zeros]

theorem pairs_apply (y : FVec Ideal S4x512x2048 .f32) (r : Fin 512) :
    pairs y (ix3 b r k) = y (ix3 b (⟨pairRow r.val, by unfold pairRow halves; omega⟩ : Fin 512) k) := by
  pointwise [pairs]
  refine congrArg (fun s : Fin 512 => y (ix3 b s k)) (Fin.ext ?_)
  show _ = r.val / 128 * 128 + (r.val % 128 / 32 % 2 * 64 + r.val % 128 / 64 * 32 + r.val % 128 % 32)
  dsimp only
  omega

theorem pair_apply (y : FVec Ideal S4x128x2048 .f32) (r : Fin 128) :
    pair y (ix3 b r k) = y (ix3 b (⟨halves r.val, by unfold halves; omega⟩ : Fin 128) k) := by
  pointwise [pair]
  rfl

theorem byGroup_apply (y : FVec Ideal S4x512x2048 .f32) (r : Fin 512) :
    byGroup y (ix3 b r k) = y (ix3 b (⟨groupRow r.val, by unfold groupRow; omega⟩ : Fin 512) k) := by
  pointwise [byGroup]
  refine congrArg (fun s : Fin 512 => y (ix3 b s k)) (Fin.ext ?_)
  show _ = (r.val / 128 + 4 * (r.val / 64 % 2)) * 64 + r.val % 64
  dsimp only
  omega

/-- A part of the joined parts: row `q` of part `i`, which has `n` rows and `pre` before it. -/
theorem part_apply (xs : List ((s : Shape) × (s.Idx → EReal))) (h : Shape.Concatenates (xs.map (·.1)) S4x6144x2048 1)
    (i n pre : Nat) (x : FVec Ideal ⟨3, ![4, n, 2048]⟩ .f32) (hi : i < xs.length) (hx : xs[i] = ⟨⟨3, ![4, n, 2048]⟩, x⟩)
    (hpre : (((xs.take i).map (·.1)).map fun s => if h : s.rank = S4x6144x2048.rank then s.size ((1 : Fin 3).cast h.symm) else 0).sum = pre)
    (r : Fin 6144) (q : Fin n) (hq : pre + q.val = r.val) :
    concatenate S4x6144x2048 1 xs h (ix3 b r k) = x (ix3 b q k) :=
  concatenate_apply_piece 1 xs h (ix3 b r k) i hi _ x hx rfl pre hpre (ix3 b q k)
    (fun a ha => by
      match a with
      | ⟨0, _⟩ => rfl
      | ⟨1, _⟩ => exact absurd rfl ha
      | ⟨2, _⟩ => rfl)
    hq

variable (y : FVec Ideal S4x5896x2048 .f32)

/-- A row of `n` rows with `pre` before them. -/
theorem within (r : Fin 6144) (n pre : Nat) (h : pre ≤ r.val ∧ r.val < pre + n) : ∃ q : Fin n, pre + q.val = r.val :=
  ⟨⟨r.val - pre, by omega⟩, by show pre + (r.val - pre) = r.val; omega⟩

set_option maxHeartbeats 8000000 in
/-- The result at an entry: the entry of the part that holds its row. -/
theorem res_apply (r : Fin 6144) : res y (ix3 b r k) = prepared (fun s => y (ix3 b s k)) r := by
  have hr := r.isLt
  rcases (by omega : (0 ≤ r.val ∧ r.val < 0 + 512) ∨ (512 ≤ r.val ∧ r.val < 512 + 512) ∨ (1024 ≤ r.val ∧ r.val < 1024 + 512) ∨ (1536 ≤ r.val ∧ r.val < 1536 + 512) ∨ (2048 ≤ r.val ∧ r.val < 2048 + 1024) ∨ (3072 ≤ r.val ∧ r.val < 3072 + 512) ∨ (3584 ≤ r.val ∧ r.val < 3584 + 512) ∨ (4096 ≤ r.val ∧ r.val < 4096 + 512) ∨ (4608 ≤ r.val ∧ r.val < 4608 + 128) ∨ (4736 ≤ r.val ∧ r.val < 4736 + 128) ∨ (4864 ≤ r.val ∧ r.val < 4864 + 8) ∨ (4872 ≤ r.val ∧ r.val < 4872 + 248) ∨ (5120 ≤ r.val ∧ r.val < 5120 + 512) ∨ (5632 ≤ r.val ∧ r.val < 5632 + 512))
    with h | h | h | h | h | h | h | h | h | h | h | h | h | h
  · obtain ⟨q, hq⟩ := within r 512 0 h
    refine (part_apply b k _ (fits _ _ _ _ _ _ _ _ _ _ _ _ _) 0 512 0 _ (by show 0 < 14; decide) rfl rfl r q hq).trans ?_
    exact prepared_run _ 512 0 (fun q => 0 + pairRow q) (by decide +kernel) r q hq _ fun h => (pairs_apply b k _ q).trans (run_apply b k _ _ _ y _ h)
  · obtain ⟨q, hq⟩ := within r 512 512 h
    refine (part_apply b k _ (fits _ _ _ _ _ _ _ _ _ _ _ _ _) 1 512 512 _ (by show 1 < 14; decide) rfl rfl r q hq).trans ?_
    exact prepared_run _ 512 512 (fun q => 512 + pairRow q) (by decide +kernel) r q hq _ fun h => (pairs_apply b k _ q).trans (run_apply b k _ _ _ y _ h)
  · obtain ⟨q, hq⟩ := within r 512 1024 h
    refine (part_apply b k _ (fits _ _ _ _ _ _ _ _ _ _ _ _ _) 2 512 1024 _ (by show 2 < 14; decide) rfl rfl r q hq).trans ?_
    exact prepared_run _ 512 1024 (fun q => 1024 + q) (by decide +kernel) r q hq _ fun h => run_apply b k _ _ _ y q h
  · obtain ⟨q, hq⟩ := within r 512 1536 h
    refine (part_apply b k _ (fits _ _ _ _ _ _ _ _ _ _ _ _ _) 3 512 1536 _ (by show 3 < 14; decide) rfl rfl r q hq).trans ?_
    exact prepared_run _ 512 1536 (fun q => 1536 + q) (by decide +kernel) r q hq _ fun h => run_apply b k _ _ _ y q h
  · obtain ⟨q, hq⟩ := within r 1024 2048 h
    refine (part_apply b k _ (fits _ _ _ _ _ _ _ _ _ _ _ _ _) 4 1024 2048 _ (by show 4 < 14; decide) rfl rfl r q hq).trans ?_
    exact prepared_run _ 1024 2048 (fun q => 2048 + q) (by decide +kernel) r q hq _ fun h => run_apply b k _ _ _ y q h
  · obtain ⟨q, hq⟩ := within r 512 3072 h
    refine (part_apply b k _ (fits _ _ _ _ _ _ _ _ _ _ _ _ _) 5 512 3072 _ (by show 5 < 14; decide) rfl rfl r q hq).trans ?_
    exact prepared_run _ 512 3072 (fun q => 3080 + q) (by decide +kernel) r q hq _ fun h => run_apply b k _ _ _ y q h
  · obtain ⟨q, hq⟩ := within r 512 3584 h
    refine (part_apply b k _ (fits _ _ _ _ _ _ _ _ _ _ _ _ _) 6 512 3584 _ (by show 6 < 14; decide) rfl rfl r q hq).trans ?_
    exact prepared_run _ 512 3584 (fun q => 4360 + groupRow q) (by decide +kernel) r q hq _ fun h => (byGroup_apply b k _ q).trans (run_apply b k _ _ _ y _ h)
  · obtain ⟨q, hq⟩ := within r 512 4096 h
    refine (part_apply b k _ (fits _ _ _ _ _ _ _ _ _ _ _ _ _) 7 512 4096 _ (by show 7 < 14; decide) rfl rfl r q hq).trans ?_
    exact prepared_run _ 512 4096 (fun q => 3592 + groupRow (pairRow q)) (by decide +kernel) r q hq _ fun h => (pairs_apply b k _ q).trans ((byGroup_apply b k _ _).trans (run_apply b k _ _ _ y _ h))
  · obtain ⟨q, hq⟩ := within r 128 4608 h
    refine (part_apply b k _ (fits _ _ _ _ _ _ _ _ _ _ _ _ _) 8 128 4608 _ (by show 8 < 14; decide) rfl rfl r q hq).trans ?_
    exact prepared_run _ 128 4608 (fun q => 4104 + halves q) (by decide +kernel) r q hq _ fun h => (pair_apply b k _ q).trans (run_apply b k _ _ _ y _ h)
  · obtain ⟨q, hq⟩ := within r 128 4736 h
    refine (part_apply b k _ (fits _ _ _ _ _ _ _ _ _ _ _ _ _) 9 128 4736 _ (by show 9 < 14; decide) rfl rfl r q hq).trans ?_
    exact prepared_run _ 128 4736 (fun q => 4232 + q) (by decide +kernel) r q hq _ fun h => run_apply b k _ _ _ y q h
  · obtain ⟨q, hq⟩ := within r 8 4864 h
    refine (part_apply b k _ (fits _ _ _ _ _ _ _ _ _ _ _ _ _) 10 8 4864 _ (by show 10 < 14; decide) rfl rfl r q hq).trans ?_
    exact prepared_run _ 8 4864 (fun q => 3072 + q) (by decide +kernel) r q hq _ fun h => run_apply b k _ _ _ y q h
  · obtain ⟨q, hq⟩ := within r 248 4872 h
    refine (part_apply b k _ (fits _ _ _ _ _ _ _ _ _ _ _ _ _) 11 248 4872 _ (by show 11 < 14; decide) rfl rfl r q hq).trans ?_
    exact (zeros_apply b k q).trans (prepared_blank _ r ⟨by omega, by omega⟩).symm
  · obtain ⟨q, hq⟩ := within r 512 5120 h
    refine (part_apply b k _ (fits _ _ _ _ _ _ _ _ _ _ _ _ _) 12 512 5120 _ (by show 12 < 14; decide) rfl rfl r q hq).trans ?_
    exact prepared_run _ 512 5120 (fun q => 4872 + q) (by decide +kernel) r q hq _ fun h => run_apply b k _ _ _ y q h
  · obtain ⟨q, hq⟩ := within r 512 5632 h
    refine (part_apply b k _ (fits _ _ _ _ _ _ _ _ _ _ _ _ _) 13 512 5632 _ (by show 13 < 14; decide) rfl rfl r q hq).trans ?_
    exact prepared_run _ 512 5632 (fun q => 5384 + q) (by decide +kernel) r q hq _ fun h => run_apply b k _ _ _ y q h

end Cert.Proof.PrepRef

end
-- ==== Proof.PrepClaims.lean ====
/- The claims about the preparation of the input weights: its launch runs to the end and leaves its argument alone, the ideal
   pass rewrote nothing, and over extended reals it computes the plain program's result. -/
module

public import proofs.«01_k».proof.Defs
public import proofs.«01_k».proof.Proof.Gen.Prep.Frame
public import proofs.«01_k».proof.Proof.PrepValue
public import proofs.«01_k».proof.Proof.PrepRef
public import Idealize.ShloMosaic.Lib.Quiescent

@[expose] public section

noncomputable section

namespace Cert.Proof.PrepClaims

open Idealize.ShloMosaic Idealize.ShloMosaic.TcCoe Idealize.SL.Sem

/-- The kernel's launch, at bits and at extended reals. -/
theorem frame_kernel : Cert.quiescent_Prep := fun m ρ _ => Cert.Prep.Gen.frame m ρ
theorem frame_ideal : Cert.quiescent_PrepIdeal := fun m ρ _ => Cert.PrepIdeal.Gen.frame m ρ

/-- The plain program's run. -/
theorem frame_ref : Cert.quiescent_PrepRefIdeal := fun m ρ _ =>
  (θ_run Cert.PrepRefIdeal.defs _ _).mono (fun r h => ⟨fun c => (h c).2,
      Idealize.ShloMosaic.sem_eq_zero_of_no_sems (by decide) r.2⟩)
    (Cert.PrepRefIdeal.Value.run (F := Ideal) m ρ)

/-- The ideal pass rewrote nothing. -/
theorem preserves : Cert.preserves_Prep_PrepIdeal := trivial

/-- The two results are the same function of weights that agree. -/
theorem algebraic : Cert.algebraic_PrepIdeal_PrepRefIdeal := by
  intro m ρ m' ρ' _ hagree
  refine ⟨fun c => PrepValue.G m c, ?_, ?_⟩
  · exact (θ_run Cert.PrepIdeal.defs _ _).mono (fun _ h c => ⟨(h c).1.trans (PrepValue.final m c), (h c).2⟩)
      (Cert.PrepIdeal.Value.run_blocks (F := Ideal) m ρ)
  · refine (θ_run Cert.PrepRefIdeal.defs _ _).mono (fun _ h c => ⟨(h c).1.trans ?_, (h c).2⟩)
      (Cert.PrepRefIdeal.Value.run (F := Ideal) m' ρ')
    funext i
    obtain ⟨b, r, k, rfl⟩ : ∃ (b : Fin 4) (r : Fin 6144) (k : Fin 2048), i = ix3 b r k := ⟨i 0, i 1, i 2, by funext a; fin_cases a <;> rfl⟩
    rw [PrepRef.res_eq, PrepRef.res_apply]
    simp only [PrepRef.columns_apply]
    rw [hagree c]
    rfl

end Cert.Proof.PrepClaims

end
-- ==== Proof.lean ====
/- The certificate's claim, put together from the claims about each program: the frames of the launches and of the plain
   programs, what the ideal pass changed, and the value claims. -/
module

public import proofs.«01_k».proof.Proof.SwaClaims
public import proofs.«01_k».proof.Proof.OutClaims
public import proofs.«01_k».proof.Proof.InClaims
public import proofs.«01_k».proof.Proof.PrepClaims

@[expose] public section

noncomputable section

namespace Cert.Proof

open Idealize.ShloMosaic Idealize.SL.Sem

/-- The certificate: every program's side conditions, the frames, the ideal pass's statements and the value claims. -/
theorem claim : Cert.Claim :=
  letI := SwaFinite.facts
  ⟨Cert.Swa.Gen.facts, Cert.SwaIdeal.Gen.facts, Cert.SwaRefIdeal.Gen.facts, Cert.Out.Gen.facts, Cert.OutIdeal.Gen.facts,
    Cert.OutRefIdeal.Gen.facts, Cert.In.Gen.facts, Cert.InIdeal.Gen.facts, Cert.InRefIdeal.Gen.facts,
    Cert.Prep.Gen.facts, Cert.PrepIdeal.Gen.facts, Cert.PrepRefIdeal.Gen.facts, SwaFinite.facts,
    SwaClaims.frame_kernel, SwaClaims.frame_ideal, SwaClaims.frame_ideal_finite, SwaClaims.frame_ref, SwaClaims.frame_ref_finite,
    OutClaims.frame_kernel, OutClaims.frame_ideal, OutClaims.frame_ref,
    InClaims.frame_kernel, InClaims.frame_ideal, InClaims.frame_ref,
    PrepClaims.frame_kernel, PrepClaims.frame_ideal, PrepClaims.frame_ref,
    SwaClaims.preserves, SwaClaims.algebraic,
    OutClaims.preserves, OutClaims.algebraic,
    InClaims.preserves, InClaims.algebraic,
    PrepClaims.preserves, PrepClaims.algebraic⟩

end Cert.Proof

end
